-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nearest_is_unique [hPre_nearest_is_unique : Cert.Pre_nearest_is_unique.Facts] (m : (ℓ : Loc Cert.KernelIdeal.nD Cert.KernelIdeal.τ Cert.KernelIdeal.sig) → Buf (Elt Ideal) ℓ) : Prop :=
  ∀ c : Dev Cert.KernelIdeal.nD,
    (Cert.Pre_nearest_is_unique.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nearest_is_unique [hPre_nearest_is_unique : Cert.Pre_nearest_is_unique.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nearest_is_unique.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nearest_is_unique [hKernelIdeal : Cert.KernelIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nearest_is_unique m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nearest_is_unique [hReferenceIdeal : Cert.ReferenceIdeal.Facts] [hPre_nearest_is_unique : Cert.Pre_nearest_is_unique.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nearest_is_unique m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nearest_is_unique [hKernelIdeal : Cert.KernelIdeal.Facts] [hReferenceIdeal : Cert.ReferenceIdeal.Facts] [hPre_nearest_is_unique : Cert.Pre_nearest_is_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nearest_is_unique m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nearest_is_unique : Cert.Pre_nearest_is_unique.Facts),
    quiescent_Kernel (hKernel := hKernel)
    ∧ quiescent_KernelIdeal (hKernelIdeal := hKernelIdeal)
    ∧ quiescent_KernelIdeal_pre_nearest_is_unique (hKernelIdeal := hKernelIdeal) (hPre_nearest_is_unique := hPre_nearest_is_unique)
    ∧ quiescent_ReferenceIdeal (hReferenceIdeal := hReferenceIdeal)
    ∧ quiescent_ReferenceIdeal_pre_nearest_is_unique (hReferenceIdeal := hReferenceIdeal) (hPre_nearest_is_unique := hPre_nearest_is_unique)
    ∧ preserves_Kernel_KernelIdeal
    ∧ algebraic_KernelIdeal_ReferenceIdeal_pre_nearest_is_unique (hKernelIdeal := hKernelIdeal) (hReferenceIdeal := hReferenceIdeal) (hPre_nearest_is_unique := hPre_nearest_is_unique)
-- ==== Pre_nearest_is_unique.lean ====
abbrev S16x64x32x32 : Shape := ⟨4, ![16, 64, 32, 32]⟩
abbrev S4096x32 : Shape := ⟨2, ![4096, 32]⟩
abbrev S_ : Shape := ⟨0, ![]⟩
abbrev S16x32x32x32 : Shape := ⟨4, ![16, 32, 32, 32]⟩
abbrev S16384x32 : Shape := ⟨2, ![16384, 32]⟩
abbrev S16384 : Shape := ⟨1, ![16384]⟩
abbrev S16384x1 : Shape := ⟨2, ![16384, 1]⟩
abbrev S32x4096 : Shape := ⟨2, ![32, 4096]⟩
abbrev S16384x4096 : Shape := ⟨2, ![16384, 4096]⟩
abbrev S4096 : Shape := ⟨1, ![4096]⟩
abbrev S1x4096 : Shape := ⟨2, ![1, 4096]⟩

class Facts : Prop where
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  h_S_ : 0 < S_.numel
  slices_S16x64x32x32_S16x32x32x32_0_0_0_0 : S16x64x32x32.Slices ![0, 0, 0, 0] S16x32x32x32
  slices_S16x64x32x32_S16x32x32x32_0_32_0_0 : S16x64x32x32.Slices ![0, 32, 0, 0] S16x32x32x32
  transposes_S16x32x32x32_S16x32x32x32_0_2_3_1 : S16x32x32x32.Transposes [0, 2, 3, 1] S16x32x32x32
  shapeCasts_S16x32x32x32_S16384x32 : S16x32x32x32.ShapeCasts S16384x32
  reducesTo_S16384x32_S16384_d1 : S16384x32.ReducesTo [1] S16384
  bcast_S16384_S16384x1_0 : S16384.BroadcastsInDim S16384x1 (![0] : Fin 1 → Fin S16384x1.rank)
  transposes_S4096x32_S32x4096_1_0 : S4096x32.Transposes [1, 0] S32x4096
  bcast_S_S16384x4096 : S_.BroadcastsInDim S16384x4096 (![] : Fin 0 → Fin S16384x4096.rank)
  bcast_S16384x1_S16384x4096_0_1 : S16384x1.BroadcastsInDim S16384x4096 (![0, 1] : Fin 2 → Fin S16384x4096.rank)
  reducesTo_S4096x32_S4096_d1 : S4096x32.ReducesTo [1] S4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  reducesTo_S16384x4096_S_d0_1 : S16384x4096.ReducesTo [0, 1] S_
  dot_S16384x32_S32x4096_S16384x4096_1_0_0_1_n_n_wf : DotDims.WF S16384x32 S32x4096 S16384x4096 [1] [0] [0] [1] [] []

variable [Facts]

variable {F : FTy → Type} [FloatOps F]
def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmin {F : FTy → Type} [FloatOps F] (arg0 : FVec F S16384x4096 .f32) : IVec S16384 32 :=
  let v0 : IVec S16384x4096 32 := iotaInDim S16384x4096 32 1
  let cst : FVec F S_ .f32 := constant S_ .f32 0x7F800000#32
  let c : IVec S_ 32 := constantI S_ 32 0#32
  let v1_0 : FVec F S16384 .f32 := (fun x y u v j => (Host.argReduce reducer_argmin_f32_i32 x y u v reducesTo_S16384x4096_S16384_d1 h_S_ j).1) arg0 v0 cst c
  let v1_1 : IVec S16384 32 := (fun x y u v j => (Host.argReduce reducer_argmin_f32_i32 x y u v reducesTo_S16384x4096_S16384_d1 h_S_ j).2) arg0 v0 cst c
  v1_1

def fn_part3 {F : FTy → Type} [FloatOps F] (main_v33 : IVec S_ 1) (main_v59 : IVec S16384x4096 1) (main_c_9 : IVec S_ 1) : IVec S_ 1 :=
  let main_v60 : IVec S_ 1 := (fun x v => Host.reduce IntOp.andi x v reducesTo_S16384x4096_S_d0_1 h_S_) main_v59 main_c_9
  let main_v61 : IVec S_ 1 := andi main_v33 main_v60
  main_v61

def fn_part2 {F : FTy → Type} [FloatOps F] (main_arg2 : FVec F S4096x32 .f32) (main_v33 : IVec S_ 1) (main_v35 : FVec F S16384x32 .f32) (main_v38 : FVec F S16384x1 .f32) (main_v39 : FVec F S32x4096 .f32) : IVec S_ 1 :=
  let main_v40 : FVec F S16384x4096 .f32 := (fun l r => Host.dotGeneral dot_S16384x32_S32x4096_S16384x4096_1_0_0_1_n_n none l r) main_v35 main_v39
  let main_cst_6 : FVec F S_ .f32 := constant S_ .f32 0x40000000#32
  let main_v41 : FVec F S16384x4096 .f32 := broadcastInDim S16384x4096 ![] bcast_S_S16384x4096 main_cst_6
  let main_v42 : FVec F S16384x4096 .f32 := mulf main_v41 main_v40
  let main_v43 : FVec F S16384x4096 .f32 := broadcastInDim S16384x4096 ![0, 1] bcast_S16384x1_S16384x4096_0_1 main_v38
  let main_v44 : FVec F S16384x4096 .f32 := subf main_v43 main_v42
  let main_v45 : FVec F S4096x32 .f32 := mulf main_arg2 main_arg2
  let main_cst_7 : FVec F S_ .f32 := constant S_ .f32 0x00000000#32
  let main_v46 : FVec F S4096 .f32 := (fun x v => Host.reduceAdd x v reducesTo_S4096x32_S4096_d1 h_S_) main_v45 main_cst_7
  let main_v47 : FVec F S1x4096 .f32 := broadcastInDim S1x4096 ![1] bcast_S4096_S1x4096_1 main_v46
  let main_v48 : FVec F S16384x4096 .f32 := broadcastInDim S16384x4096 ![0, 1] bcast_S1x4096_S16384x4096_0_1 main_v47
  let main_v49 : FVec F S16384x4096 .f32 := addf main_v44 main_v48
  let main_v50 : IVec S16384 32 := fn_argmin (F := F) main_v49
  let main_v51 : IVec S16384x4096 32 := iotaInDim S16384x4096 32 1
  let main_cst_8 : FVec F S_ .f32 := constant S_ .f32 0x7F800000#32
  let main_v52 : FVec F S16384 .f32 := (fun x v => Host.reduce FloatOps.minimumf x v reducesTo_S16384x4096_S16384_d1 h_S_) main_v49 main_cst_8
  let main_v53 : FVec F S16384x1 .f32 := broadcastInDim S16384x1 ![0] bcast_S16384_S16384x1_0 main_v52
  let main_v54 : FVec F S16384x4096 .f32 := broadcastInDim S16384x4096 ![0, 1] bcast_S16384x1_S16384x4096_0_1 main_v53
  let main_v55 : IVec S16384x4096 1 := cmpf .ogt main_v49 main_v54
  let main_v56 : IVec S16384x1 32 := broadcastInDim S16384x1 ![0] bcast_S16384_S16384x1_0 main_v50
  let main_v57 : IVec S16384x4096 32 := broadcastInDim S16384x4096 ![0, 1] bcast_S16384x1_S16384x4096_0_1 main_v56
  let main_v58 : IVec S16384x4096 1 := cmpi .eq main_v51 main_v57
  let main_v59 : IVec S16384x4096 1 := ori main_v55 main_v58
  let main_c_9 : IVec S_ 1 := constantI S_ 1 1#1
  fn_part3 (F := F) main_v33 main_v59 main_c_9

def fn_part1 {F : FTy → Type} [FloatOps F] (main_arg2 : FVec F S4096x32 .f32) (main_v3 : IVec S_ 1) (main_v5 : FVec F S16x32x32x32 .f32) (main_v16 : FVec F S16384x4096 .f32) (main_v18 : FVec F S4096 .f32) : IVec S_ 1 :=
  let main_v19 : FVec F S1x4096 .f32 := broadcastInDim S1x4096 ![1] bcast_S4096_S1x4096_1 main_v18
  let main_v20 : FVec F S16384x4096 .f32 := broadcastInDim S16384x4096 ![0, 1] bcast_S1x4096_S16384x4096_0_1 main_v19
  let main_v21 : FVec F S16384x4096 .f32 := addf main_v16 main_v20
  let main_v22 : IVec S16384 32 := fn_argmin (F := F) main_v21
  let main_v23 : IVec S16384x4096 32 := iotaInDim S16384x4096 32 1
  let main_cst_3 : FVec F S_ .f32 := constant S_ .f32 0x7F800000#32
  let main_v24 : FVec F S16384 .f32 := (fun x v => Host.reduce FloatOps.minimumf x v reducesTo_S16384x4096_S16384_d1 h_S_) main_v21 main_cst_3
  let main_v25 : FVec F S16384x1 .f32 := broadcastInDim S16384x1 ![0] bcast_S16384_S16384x1_0 main_v24
  let main_v26 : FVec F S16384x4096 .f32 := broadcastInDim S16384x4096 ![0, 1] bcast_S16384x1_S16384x4096_0_1 main_v25
  let main_v27 : IVec S16384x4096 1 := cmpf .ogt main_v21 main_v26
  let main_v28 : IVec S16384x1 32 := broadcastInDim S16384x1 ![0] bcast_S16384_S16384x1_0 main_v22
  let main_v29 : IVec S16384x4096 32 := broadcastInDim S16384x4096 ![0, 1] bcast_S16384x1_S16384x4096_0_1 main_v28
  let main_v30 : IVec S16384x4096 1 := cmpi .eq main_v23 main_v29
  let main_v31 : IVec S16384x4096 1 := ori main_v27 main_v30
  let main_c_4 : IVec S_ 1 := constantI S_ 1 1#1
  let main_v32 : IVec S_ 1 := (fun x v => Host.reduce IntOp.andi x v reducesTo_S16384x4096_S_d0_1 h_S_) main_v31 main_c_4
  let main_v33 : IVec S_ 1 := andi main_v3 main_v32
  let main_v34 : FVec F S16x32x32x32 .f32 := (transpose S16x32x32x32 [0, 2, 3, 1] · transposes_S16x32x32x32_S16x32x32x32_0_2_3_1) main_v5
  let main_v35 : FVec F S16384x32 .f32 := shapeCast S16384x32 main_v34 shapeCasts_S16x32x32x32_S16384x32
  let main_v36 : FVec F S16384x32 .f32 := mulf main_v35 main_v35
  let main_cst_5 : FVec F S_ .f32 := constant S_ .f32 0x00000000#32
  let main_v37 : FVec F S16384 .f32 := (fun x v => Host.reduceAdd x v reducesTo_S16384x32_S16384_d1 h_S_) main_v36 main_cst_5
  let main_v38 : FVec F S16384x1 .f32 := broadcastInDim S16384x1 ![0] bcast_S16384_S16384x1_0 main_v37
  let main_v39 : FVec F S32x4096 .f32 := (transpose S32x4096 [1, 0] · transposes_S4096x32_S32x4096_1_0) main_arg2
  fn_part2 (F := F) main_arg2 main_v33 main_v35 main_v38 main_v39

def fn {F : FTy → Type} [FloatOps F] (main_arg0 : FVec F S16x64x32x32 .f32) (main_arg1 : FVec F S4096x32 .f32) (main_arg2 : FVec F S4096x32 .f32) : IVec S_ 1 :=
  let main_v0 : FVec F S16x64x32x32 .f32 := Host.absf main_arg0
  let main_cst : FVec F S_ .f32 := constant S_ .f32 0x7F800000#32
  let main_v1 : FVec F S16x64x32x32 .f32 := broadcastInDim S16x64x32x32 ![] bcast_S_S16x64x32x32 main_cst
  let main_v2 : IVec S16x64x32x32 1 := cmpf .olt main_v0 main_v1
  let main_c : IVec S_ 1 := constantI S_ 1 1#1
  let main_v3 : IVec S_ 1 := (fun x v => Host.reduce IntOp.andi x v reducesTo_S16x64x32x32_S_d0_1_2_3 h_S_) main_v2 main_c
  let main_v4 : FVec F S16x32x32x32 .f32 := (extractStridedSlice S16x32x32x32 ![0, 0, 0, 0] · slices_S16x64x32x32_S16x32x32x32_0_0_0_0) main_arg0
  let main_v5 : FVec F S16x32x32x32 .f32 := (extractStridedSlice S16x32x32x32 ![0, 32, 0, 0] · slices_S16x64x32x32_S16x32x32x32_0_32_0_0) main_arg0
  let main_v6 : FVec F S16x32x32x32 .f32 := (transpose S16x32x32x32 [0, 2, 3, 1] · transposes_S16x32x32x32_S16x32x32x32_0_2_3_1) main_v4
  let main_v7 : FVec F S16384x32 .f32 := shapeCast S16384x32 main_v6 shapeCasts_S16x32x32x32_S16384x32
  let main_v8 : FVec F S16384x32 .f32 := mulf main_v7 main_v7
  let main_cst_0 : FVec F S_ .f32 := constant S_ .f32 0x00000000#32
  let main_v9 : FVec F S16384 .f32 := (fun x v => Host.reduceAdd x v reducesTo_S16384x32_S16384_d1 h_S_) main_v8 main_cst_0
  let main_v10 : FVec F S16384x1 .f32 := broadcastInDim S16384x1 ![0] bcast_S16384_S16384x1_0 main_v9
  let main_v11 : FVec F S32x4096 .f32 := (transpose S32x4096 [1, 0] · transposes_S4096x32_S32x4096_1_0) main_arg1
  let main_v12 : FVec F S16384x4096 .f32 := (fun l r => Host.dotGeneral dot_S16384x32_S32x4096_S16384x4096_1_0_0_1_n_n none l r) main_v7 main_v11
  let main_cst_1 : FVec F S_ .f32 := constant S_ .f32 0x40000000#32
  let main_v13 : FVec F S16384x4096 .f32 := broadcastInDim S16384x4096 ![] bcast_S_S16384x4096 main_cst_1
  let main_v14 : FVec F S16384x4096 .f32 := mulf main_v13 main_v12
  let main_v15 : FVec F S16384x4096 .f32 := broadcastInDim S16384x4096 ![0, 1] bcast_S16384x1_S16384x4096_0_1 main_v10
  let main_v16 : FVec F S16384x4096 .f32 := subf main_v15 main_v14
  let main_v17 : FVec F S4096x32 .f32 := mulf main_arg1 main_arg1
  let main_cst_2 : FVec F S_ .f32 := constant S_ .f32 0x00000000#32
  let main_v18 : FVec F S4096 .f32 := (fun x v => Host.reduceAdd x v reducesTo_S4096x32_S4096_d1 h_S_) main_v17 main_cst_2
  fn_part1 (F := F) main_arg2 main_v3 main_v5 main_v16 main_v18
-- ==== Kernel.lean ====
abbrev S16x64x32x32 : Shape := ⟨4, ![16, 64, 32, 32]⟩
abbrev S4096x32 : Shape := ⟨2, ![4096, 32]⟩
abbrev S2048 : Shape := ⟨1, ![2048]⟩
abbrev S_ : Shape := ⟨0, ![]⟩
abbrev S1x2048 : Shape := ⟨2, ![1, 2048]⟩
abbrev S2x2048 : Shape := ⟨2, ![2, 2048]⟩
abbrev S4096 : Shape := ⟨1, ![4096]⟩
abbrev S4096x1 : Shape := ⟨2, ![4096, 1]⟩
abbrev S16x2x32x32x32 : Shape := ⟨5, ![16, 2, 32, 32, 32]⟩
abbrev S16x1x1024 : Shape := ⟨3, ![16, 1, 1024]⟩
abbrev S1x1x32x32x32 : Shape := ⟨5, ![1, 1, 32, 32, 32]⟩
abbrev S1x1x1024 : Shape := ⟨3, ![1, 1, 1024]⟩
abbrev S32x32x32 : Shape := ⟨3, ![32, 32, 32]⟩
abbrev S32x1024 : Shape := ⟨2, ![32, 1024]⟩
abbrev S1024 : Shape := ⟨1, ![1024]⟩
abbrev S1x1024 : Shape := ⟨2, ![1, 1024]⟩
abbrev S4096x1024 : Shape := ⟨2, ![4096, 1024]⟩
abbrev S2048x1024 : Shape := ⟨2, ![2048, 1024]⟩
abbrev S2x1024 : Shape := ⟨2, ![2, 1024]⟩
abbrev S1x16384 : Shape := ⟨2, ![1, 16384]⟩
abbrev S4096x128 : Shape := ⟨2, ![4096, 128]⟩
abbrev S16384x128 : Shape := ⟨2, ![16384, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S16384x32 : Shape := ⟨2, ![16384, 32]⟩
abbrev S1x16384x32 : Shape := ⟨3, ![1, 16384, 32]⟩
abbrev S2x16384x32 : Shape := ⟨3, ![2, 16384, 32]⟩
abbrev S2x16x32x32x32 : Shape := ⟨5, ![2, 16, 32, 32, 32]⟩

abbrev nBuf : Table → Nat
  | .hbm => 80
  | .local .tc .vmem => 14
  | .local .scVector .vmem => 4
  | _ => 0

abbrev bufTy : (tb : Table) → Fin (nBuf tb) → BufTy
  | .hbm, ⟨0, _⟩ => ⟨S16x64x32x32, .f32⟩
  | .hbm, ⟨1, _⟩ => ⟨S4096x32, .f32⟩
  | .hbm, ⟨2, _⟩ => ⟨S4096x32, .f32⟩
  | .hbm, ⟨3, _⟩ => ⟨S2048, .i32⟩
  | .hbm, ⟨4, _⟩ => ⟨S_, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S_, .i1⟩
  | .hbm, ⟨38, _⟩ => ⟨S2048, .i1⟩
  | .hbm, ⟨39, _⟩ => ⟨S2048, .i1⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S1x2048, .i32⟩
  | .hbm, ⟨45, _⟩ => ⟨S1x2048, .i32⟩
  | .hbm, ⟨46, _⟩ => ⟨S2x2048, .i32⟩
  | .hbm, ⟨47, _⟩ => ⟨S2x2048, .bf16⟩
  | .hbm, ⟨48, _⟩ => ⟨S4096x32, .bf16⟩
  | .hbm, ⟨49, _⟩ => ⟨S4096x32, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S16x2x32x32x32, .f32⟩
  | .hbm, ⟨54, _⟩ => ⟨S16x1x1024, .i32⟩
  | .hbm, ⟨55, _⟩ => ⟨S1x16384, .i32⟩
  | .hbm, ⟨56, _⟩ => ⟨S_, .i32⟩
  | .hbm, ⟨57, _⟩ => ⟨S_, .f32⟩
  | .hbm, ⟨58, _⟩ => ⟨S4096x128, .f32⟩
  | .hbm, ⟨59, _⟩ => ⟨S16384x128, .f32⟩
  | .hbm, ⟨60, _⟩ => ⟨S16384x32, .f32⟩
  | .hbm, ⟨61, _⟩ => ⟨S4096x32, .bf16⟩
  | .hbm, ⟨62, _⟩ => ⟨S4096x32, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S16x2x32x32x32, .f32⟩
  | .hbm, ⟨67, _⟩ => ⟨S16x1x1024, .i32⟩
  | .hbm, ⟨68, _⟩ => ⟨S1x16384, .i32⟩
  | .hbm, ⟨69, _⟩ => ⟨S_, .i32⟩
  | .hbm, ⟨70, _⟩ => ⟨S_, .f32⟩
  | .hbm, ⟨71, _⟩ => ⟨S4096x128, .f32⟩
  | .hbm, ⟨72, _⟩ => ⟨S16384x128, .f32⟩
  | .hbm, ⟨73, _⟩ => ⟨S16384x32, .f32⟩
  | .hbm, ⟨74, _⟩ => ⟨S1x16384x32, .f32⟩
  | .hbm, ⟨75, _⟩ => ⟨S1x16384x32, .f32⟩
  | .hbm, ⟨76, _⟩ => ⟨S2x16384x32, .f32⟩
  | .hbm, ⟨77, _⟩ => ⟨S2x16x32x32x32, .f32⟩
  | .hbm, ⟨78, _⟩ => ⟨S16x2x32x32x32, .f32⟩
  | .hbm, ⟨79, _⟩ => ⟨S16x64x32x32, .f32⟩
  | .local .tc .vmem, ⟨0, _⟩ => ⟨S1x1x32x32x32, .f32⟩
  | .local .tc .vmem, ⟨1, _⟩ => ⟨S1x1x32x32x32, .f32⟩
  | .local .tc .vmem, ⟨2, _⟩ => ⟨S4096x32, .bf16⟩
  | .local .tc .vmem, ⟨3, _⟩ => ⟨S4096x1, .f32⟩
  | .local .tc .vmem, ⟨4, _⟩ => ⟨S2x2048, .bf16⟩
  | .local .tc .vmem, ⟨5, _⟩ => ⟨S1x1x1024, .i32⟩
  | .local .tc .vmem, ⟨6, _⟩ => ⟨S1x1x1024, .i32⟩
  | .local .tc .vmem, ⟨7, _⟩ => ⟨S1x1x32x32x32, .f32⟩
  | .local .tc .vmem, ⟨8, _⟩ => ⟨S1x1x32x32x32, .f32⟩
  | .local .tc .vmem, ⟨9, _⟩ => ⟨S4096x32, .bf16⟩
  | .local .tc .vmem, ⟨10, _⟩ => ⟨S4096x1, .f32⟩
  | .local .tc .vmem, ⟨11, _⟩ => ⟨S2x2048, .bf16⟩
  | .local .tc .vmem, ⟨12, _⟩ => ⟨S1x1x1024, .i32⟩
  | .local .tc .vmem, ⟨13, _⟩ => ⟨S1x1x1024, .i32⟩
  | .local .scVector .vmem, ⟨0, _⟩ => ⟨S2x1x256, .i32⟩
  | .local .scVector .vmem, ⟨1, _⟩ => ⟨S2x256x128, .f32⟩
  | .local .scVector .vmem, ⟨2, _⟩ => ⟨S2x1x256, .i32⟩
  | .local .scVector .vmem, ⟨3, _⟩ => ⟨S2x256x128, .f32⟩
  | _, _ => ⟨S16x64x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_c_1 : Ref sig .tc := ⟨.hbm, 56, rfl⟩
abbrev main_call2_v0 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_call3_v0 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v14_scv : Ref sig .scVector := ⟨.hbm, 58, rfl⟩
abbrev main_v13_scv : Ref sig .scVector := ⟨.hbm, 55, rfl⟩
abbrev main_v15_scv : Ref sig .scVector := ⟨.hbm, 59, rfl⟩
abbrev main_v24_scv : Ref sig .scVector := ⟨.hbm, 71, rfl⟩
abbrev main_v23_scv : Ref sig .scVector := ⟨.hbm, 68, rfl⟩
abbrev main_v25_scv : Ref sig .scVector := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg4_1 : Ref sig .tc := ⟨.vmem, 13, rfl⟩
abbrev cc1_scoped0 : Ref sig .scVector := ⟨.vmem, 0, rfl⟩
abbrev cc1_scoped2 : Ref sig .scVector := ⟨.vmem, 1, rfl⟩
abbrev cc3_scoped0 : Ref sig .scVector := ⟨.vmem, 2, rfl⟩
abbrev cc3_scoped2 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k1_off2 (i : grid1.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k1_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k1_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k1_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k1_off5 (i : grid1.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k1_off6 (arg6_r0 : BitVec 32) : Fin 1 → Nat :=
  let c2_i32_101_r0 : BitVec 32 := 2#32
  let v144_r0 : BitVec 32 := Scalar.remui arg6_r0 c2_i32_101_r0
  ![v144_r0.toNat]
def k1_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k1_off8 (i : grid1.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k1_off9 (arg7_r0 : BitVec 32) : Fin 1 → Nat :=
  let c2_i32_102_r0 : BitVec 32 := 2#32
  let v145_r0 : BitVec 32 := Scalar.remui arg7_r0 c2_i32_102_r0
  ![v145_r0.toNat]
def k1_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k1_chk2 (arg8_r0 : BitVec 32) : Prop :=
  (∀ a, (k1_off10 arg8_r0) a + S1x256x128.size a ≤ S2x256x128.size a)
theorem k1_off10_inb : ∀ (arg8_r0 : BitVec 32) (k1_hw2 : k1_chk2 arg8_r0), ∀ a, (k1_off10 arg8_r0) a + S1x256x128.size a ≤ S2x256x128.size a := fun arg8_r0 k1_hw2 => k1_hw2

def k1_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k1_chk3 (arg7_r0 : BitVec 32) : Prop :=
  (∀ a, (k1_off11 arg7_r0) a + S1x1x256.size a ≤ S2x1x256.size a)
theorem k1_off11_inb : ∀ (arg7_r0 : BitVec 32) (k1_hw3 : k1_chk3 arg7_r0), ∀ a, (k1_off11 arg7_r0) a + S1x1x256.size a ≤ S2x1x256.size a := fun arg7_r0 k1_hw3 => k1_hw3

def k1_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k1_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k1_off13 (i : grid1.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k1_off14 (arg8_r0 : BitVec 32) : Fin 1 → Nat :=
  let c2_i32_101_r0 : BitVec 32 := 2#32
  let v144_r0 : BitVec 32 := Scalar.remui arg8_r0 c2_i32_101_r0
  ![v144_r0.toNat]
def k1_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k1_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k1_off16 (i : grid1.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k1_off17 (arg9_r0 : BitVec 32) : Fin 1 → Nat :=
  let c2_i32_101_r0 : BitVec 32 := 2#32
  let v144_r0 : BitVec 32 := Scalar.remui arg9_r0 c2_i32_101_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x256.size a ≤ S2x1x256.size a) ∧
  (∀ (k1_h1 : k1_cond1 i k1_t1 arg10_r0 = 1#1), ∀ a, (k1_off5 i arg10_r0) a + S1x256.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x256.size a ≤ S2x1x256.size a) ∧
  (∀ (k1_h2 : k1_cond2 i k1_t1 arg10_r0 = 1#1), ∀ a, (k1_off8 i arg10_r0) a + S1x256.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x256x128.size a ≤ S2x256x128.size a) ∧
  (∀ (k1_h5 : k1_cond5 i k1_t1 arg10_r0 = 1#1), ∀ a, (k1_off13 i arg10_r0) a + S256x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x256x128.size a ≤ S2x256x128.size a) ∧
  (∀ (k1_h7 : k1_cond7 i k1_t1 arg10_r0 = 1#1), ∀ a, (k1_off16 i arg10_r0) a + S256x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x256.size a ≤ S2x1x256.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x256.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x256.size a ≤ S2x1x256.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x256.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x256x128.size a ≤ S2x256x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S256x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x256x128.size a ≤ S2x256x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S256x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k1_off19 (i : grid1.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k1_chk5 (i : grid1.Coords) (v33_4_r0 : BitVec 32) : Prop :=
  (∀ a, (k1_off19 i v33_4_r0) a + S256x128.size a ≤ S16384x128.size a)
theorem k1_off19_inb : ∀ (i : grid1.Coords) (v33_4_r0 : BitVec 32) (k1_hw5 : k1_chk5 i v33_4_r0), ∀ a, (k1_off19 i v33_4_r0) a + S256x128.size a ≤ S16384x128.size a := fun i v33_4_r0 k1_hw5 => k1_hw5

def k1_off20 (v33_3_r0 : BitVec 32) : Fin 1 → Nat :=
  let c2_i32_48_r0 : BitVec 32 := 2#32
  let v54_r0 : BitVec 32 := Scalar.remui v33_3_r0 c2_i32_48_r0
  ![v54_r0.toNat]
def k1_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k1_chk4 (v33_3_r0 : BitVec 32) : Prop :=
  (∀ a, (k1_off18 v33_3_r0) a + S1x256x128.size a ≤ S2x256x128.size a) ∧
  (∀ a, (k1_off20 v33_3_r0) a + S1.size a ≤ S2.size a) ∧
  (∀ a, (k1_off21 v33_3_r0) a + S1x256x128.size a ≤ S2x256x128.size a)
theorem k1_off18_inb : ∀ (v33_3_r0 : BitVec 32) (k1_hw4 : k1_chk4 v33_3_r0), ∀ a, (k1_off18 v33_3_r0) a + S1x256x128.size a ≤ S2x256x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x256x128.size a ≤ S2x256x128.size a := fun v33_3_r0 k1_hw4 => k1_hw4.2.2

abbrev grid2 : Pipeline.Grid := ⟨1, ![16], ![false]⟩

def cc2_transform_0 (i : grid2.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x32x32x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x1024 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

def k3_off1 : Fin 3 → Nat :=
  let c0_i32_14_r0 : BitVec 32 := 0#32
  let c2_i32_15_r0 : BitVec 32 := 2#32
  let v21_r0 : BitVec 32 := Scalar.remui c0_i32_14_r0 c2_i32_15_r0
  let c0_i32_16_r0 : BitVec 32 := 0#32
  let c0_i32_17_r0 : BitVec 32 := 0#32
  ![v21_r0.toNat, 0, 0]
def k3_off2 (i : grid3.Coords) : Fin 2 → Nat :=
  let c0_i32_18_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v7_r0 : BitVec 32 := Scalar.addi c0_i32_1_r0 v4
  let v22_r0 : BitVec 32 := Scalar.muli c256_i32_r0 v7_r0
  ![0, v22_r0.toNat]
def k3_off3 : Fin 1 → Nat :=
  let c0_i32_14_r0 : BitVec 32 := 0#32
  let c2_i32_15_r0 : BitVec 32 := 2#32
  let v21_r0 : BitVec 32 := Scalar.remui c0_i32_14_r0 c2_i32_15_r0
  ![v21_r0.toNat]
@[reducible] def k3_t1_loop : Scf.Loop 32 :=
  let c0_i32_28_r0 : BitVec 32 := 0#32
  let c2_i32_29_r0 : BitVec 32 := 2#32
  let v32_r0 : BitVec 32 := Scalar.addi c0_i32_28_r0 c2_i32_29_r0
  let c1_i32_30_r0 : BitVec 32 := 1#32
  ⟨c0_i32_28_r0, v32_r0, c1_i32_30_r0⟩
def k3_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v82_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k3_t1
  let c1_i32_70_r0 : BitVec 32 := 1#32
  let v83_r0 : BitVec 1 := Scalar.cmpi .sge arg5_r0 c1_i32_70_r0
  let true_71_r0 : BitVec 1 := 1#1
  let v84_r0 : BitVec 1 := Scalar.xori v83_r0 true_71_r0
  let v85_r0 : BitVec 1 := Scalar.andi v82_r0 v84_r0
  let true_72_r0 : BitVec 1 := 1#1
  let v86_r0 : BitVec 1 := Scalar.andi v85_r0 true_72_r0
  let v87_r0 : BitVec 32 := Scalar.extui v86_r0
  let c0_i32_73_r0 : BitVec 32 := 0#32
  let v88_r0 : BitVec 1 := Scalar.cmpi .ne v87_r0 c0_i32_73_r0
  v88_r0

def k3_off5 (i : grid3.Coords) (arg10_r0 : BitVec 32) : Fin 2 → Nat :=
  let c0_i32_105_r0 : BitVec 32 := 0#32
  let c256_i32_102_r0 : BitVec 32 := 256#32
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v76_r0 : BitVec 32 := Scalar.addi v75_r0 v4
  let v145_r0 : BitVec 32 := Scalar.muli c256_i32_102_r0 v76_r0
  ![0, v145_r0.toNat]
def k3_off6 (arg6_r0 : BitVec 32) : Fin 1 → Nat :=
  let c2_i32_101_r0 : BitVec 32 := 2#32
  let v144_r0 : BitVec 32 := Scalar.remui arg6_r0 c2_i32_101_r0
  ![v144_r0.toNat]
def k3_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v96_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k3_t1
  let c0_i32_56_r0 : BitVec 32 := 0#32
  let v64_r0 : BitVec 1 := Scalar.cmpi .eq arg5_r0 c0_i32_56_r0
  let v97_r0 : BitVec 1 := Scalar.ori v96_r0 v64_r0
  let c0_i32_78_r0 : BitVec 32 := 0#32
  let v98_r0 : BitVec 1 := Scalar.cmpi .sge arg5_r0 c0_i32_78_r0
  let v99_r0 : BitVec 1 := Scalar.andi v97_r0 v98_r0
  let v100_r0 : BitVec 32 := Scalar.extui v99_r0
  let c0_i32_79_r0 : BitVec 32 := 0#32
  let v101_r0 : BitVec 1 := Scalar.cmpi .ne v100_r0 c0_i32_79_r0
  v101_r0

def k3_off8 (i : grid3.Coords) (arg10_r0 : BitVec 32) : Fin 2 → Nat :=
  let c0_i32_105_r0 : BitVec 32 := 0#32
  let c256_i32_101_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v144_r0 : BitVec 32 := Scalar.muli c256_i32_101_r0 v66_r0
  ![0, v144_r0.toNat]
def k3_off9 (arg7_r0 : BitVec 32) : Fin 1 → Nat :=
  let c2_i32_102_r0 : BitVec 32 := 2#32
  let v145_r0 : BitVec 32 := Scalar.remui arg7_r0 c2_i32_102_r0
  ![v145_r0.toNat]
def k3_off10 (arg8_r0 : BitVec 32) : Fin 3 → Nat :=
  let c2_i32_83_r0 : BitVec 32 := 2#32
  let v109_r0 : BitVec 32 := Scalar.remui arg8_r0 c2_i32_83_r0
  let c0_i32_101_r1 : BitVec 32 := 0#32
  let c0_i32_102_r1 : BitVec 32 := 0#32
  ![v109_r0.toNat, 0, 0]

def k3_chk2 (arg8_r0 : BitVec 32) : Prop :=
  (∀ a, (k3_off10 arg8_r0) a + S1x256x128.size a ≤ S2x256x128.size a)
theorem k3_off10_inb : ∀ (arg8_r0 : BitVec 32) (k3_hw2 : k3_chk2 arg8_r0), ∀ a, (k3_off10 arg8_r0) a + S1x256x128.size a ≤ S2x256x128.size a := fun arg8_r0 k3_hw2 => k3_hw2

def k3_off11 (arg7_r0 : BitVec 32) : Fin 3 → Nat :=
  let c2_i32_82_r0 : BitVec 32 := 2#32
  let v108_r0 : BitVec 32 := Scalar.remui arg7_r0 c2_i32_82_r0
  let c0_i32_103_r1 : BitVec 32 := 0#32
  let c0_i32_104_r1 : BitVec 32 := 0#32
  ![v108_r0.toNat, 0, 0]

def k3_chk3 (arg7_r0 : BitVec 32) : Prop :=
  (∀ a, (k3_off11 arg7_r0) a + S1x1x256.size a ≤ S2x1x256.size a)
theorem k3_off11_inb : ∀ (arg7_r0 : BitVec 32) (k3_hw3 : k3_chk3 arg7_r0), ∀ a, (k3_off11 arg7_r0) a + S1x1x256.size a ≤ S2x1x256.size a := fun arg7_r0 k3_hw3 => k3_hw3

def k3_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_63_r0 : BitVec 1 := 1#1
  let c1_i32_62_r0 : BitVec 32 := 1#32
  let v72_r0 : BitVec 32 := Scalar.addi arg10_r0 c1_i32_62_r0
  let v73_r0 : BitVec 32 := Scalar.select true_63_r0 v72_r0 arg10_r0
  let c2_i32_64_r0 : BitVec 32 := 2#32
  let v74_r0 : BitVec 1 := Scalar.cmpi .eq v73_r0 c2_i32_64_r0
  let c0_i32_65_r0 : BitVec 32 := 0#32
  let v75_r0 : BitVec 32 := Scalar.select v74_r0 c0_i32_65_r0 v73_r0
  let v76_r0 : BitVec 32 := Scalar.addi v75_r0 v4
  let v115_r0 : BitVec 1 := Scalar.cmpi .ne v66_r0 v76_r0
  let c0_i32_28_r0 : BitVec 32 := 0#32
  let c1_i32_30_r0 : BitVec 32 := 1#32
  let arg5_r0 : BitVec 32 := Scf.iv c0_i32_28_r0 c1_i32_30_r0 k3_t1
  let c1_i32_57_r0 : BitVec 32 := 1#32
  let v65_r0 : BitVec 1 := Scalar.cmpi .eq arg5_r0 c1_i32_57_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k3_off13 (i : grid3.Coords) (arg10_r0 : BitVec 32) : Fin 2 → Nat :=
  let c256_i32_102_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let v145_r0 : BitVec 32 := Scalar.muli c256_i32_102_r0 v66_r0
  let c0_i32_105_r0 : BitVec 32 := 0#32
  ![v145_r0.toNat, 0]
def k3_off14 (arg8_r0 : BitVec 32) : Fin 1 → Nat :=
  let c2_i32_101_r0 : BitVec 32 := 2#32
  let v144_r0 : BitVec 32 := Scalar.remui arg8_r0 c2_i32_101_r0
  ![v144_r0.toNat]
def k3_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v66_r0 : BitVec 32 := Scalar.addi arg10_r0 v4
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let v71_r0 : BitVec 32 := Scalar.addi v70_r0 v4
  let v128_r0 : BitVec 1 := Scalar.cmpi .ne v66_r0 v71_r0
  let c0_i32_28_r0 : BitVec 32 := 0#32
  let c1_i32_30_r0 : BitVec 32 := 1#32
  let arg5_r0 : BitVec 32 := Scf.iv c0_i32_28_r0 c1_i32_30_r0 k3_t1
  let c0_i32_56_r0 : BitVec 32 := 0#32
  let v64_r0 : BitVec 1 := Scalar.cmpi .eq arg5_r0 c0_i32_56_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k3_off16 (i : grid3.Coords) (arg10_r0 : BitVec 32) : Fin 2 → Nat :=
  let c256_i32_102_r0 : BitVec 32 := 256#32
  let true_59_r0 : BitVec 1 := 1#1
  let c1_i32_58_r0 : BitVec 32 := 1#32
  let v67_r0 : BitVec 32 := Scalar.subi arg10_r0 c1_i32_58_r0
  let v68_r0 : BitVec 32 := Scalar.select true_59_r0 v67_r0 arg10_r0
  let c_m1_i32_60_r0 : BitVec 32 := 4294967295#32
  let v69_r0 : BitVec 1 := Scalar.cmpi .eq v68_r0 c_m1_i32_60_r0
  let c1_i32_61_r0 : BitVec 32 := 1#32
  let v70_r0 : BitVec 32 := Scalar.select v69_r0 c1_i32_61_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v71_r0 : BitVec 32 := Scalar.addi v70_r0 v4
  let v145_r0 : BitVec 32 := Scalar.muli c256_i32_102_r0 v71_r0
  let c0_i32_105_r0 : BitVec 32 := 0#32
  ![v145_r0.toNat, 0]
def k3_off17 (arg9_r0 : BitVec 32) : Fin 1 → Nat :=
  let c2_i32_101_r0 : BitVec 32 := 2#32
  let v144_r0 : BitVec 32 := Scalar.remui arg9_r0 c2_i32_101_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x256.size a ≤ S2x1x256.size a) ∧
  (∀ (k3_h1 : k3_cond1 i k3_t1 arg10_r0 = 1#1), ∀ a, (k3_off5 i arg10_r0) a + S1x256.size a ≤ S1x16384.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x256.size a ≤ S2x1x256.size a) ∧
  (∀ (k3_h2 : k3_cond2 i k3_t1 arg10_r0 = 1#1), ∀ a, (k3_off8 i arg10_r0) a + S1x256.size a ≤ S1x16384.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x256x128.size a ≤ S2x256x128.size a) ∧
  (∀ (k3_h5 : k3_cond5 i k3_t1 arg10_r0 = 1#1), ∀ a, (k3_off13 i arg10_r0) a + S256x128.size a ≤ S16384x128.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x256x128.size a ≤ S2x256x128.size a) ∧
  (∀ (k3_h7 : k3_cond7 i k3_t1 arg10_r0 = 1#1), ∀ a, (k3_off16 i arg10_r0) a + S256x128.size a ≤ S16384x128.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x256.size a ≤ S2x1x256.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x256.size a ≤ S1x16384.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x256.size a ≤ S2x1x256.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x256.size a ≤ S1x16384.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x256x128.size a ≤ S2x256x128.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S256x128.size a ≤ S16384x128.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x256x128.size a ≤ S2x256x128.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S256x128.size a ≤ S16384x128.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_48_r0 : BitVec 32 := 2#32
  let v54_r0 : BitVec 32 := Scalar.remui v33_3_r0 c2_i32_48_r0
  let c0_i32_50_r0 : BitVec 32 := 0#32
  let c0_i32_51_r0 : BitVec 32 := 0#32
  ![v54_r0.toNat, 0, 0]

def k3_off19 (i : grid3.Coords) (v33_4_r0 : BitVec 32) : Fin 2 → Nat :=
  let c256_i32_49_r0 : BitVec 32 := 256#32
  let true_33_r0 : BitVec 1 := 1#1
  let c1_i32_32_r0 : BitVec 32 := 1#32
  let v34_r0 : BitVec 32 := Scalar.subi v33_4_r0 c1_i32_32_r0
  let v35_r0 : BitVec 32 := Scalar.select true_33_r0 v34_r0 v33_4_r0
  let c_m1_i32_34_r0 : BitVec 32 := 4294967295#32
  let v36_r0 : BitVec 1 := Scalar.cmpi .eq v35_r0 c_m1_i32_34_r0
  let c1_i32_35_r0 : BitVec 32 := 1#32
  let v37_r0 : BitVec 32 := Scalar.select v36_r0 c1_i32_35_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 32 := Scalar.muli v3 c2_i32
  let v38_r0 : BitVec 32 := Scalar.addi v37_r0 v4
  let v55_r0 : BitVec 32 := Scalar.muli c256_i32_49_r0 v38_r0
  let c0_i32_52_r0 : BitVec 32 := 0#32
  ![v55_r0.toNat, 0]

def k3_chk5 (i : grid3.Coords) (v33_4_r0 : BitVec 32) : Prop :=
  (∀ a, (k3_off19 i v33_4_r0) a + S256x128.size a ≤ S16384x128.size a)
theorem k3_off19_inb : ∀ (i : grid3.Coords) (v33_4_r0 : BitVec 32) (k3_hw5 : k3_chk5 i v33_4_r0), ∀ a, (k3_off19 i v33_4_r0) a + S256x128.size a ≤ S16384x128.size a := fun i v33_4_r0 k3_hw5 => k3_hw5

def k3_off20 (v33_3_r0 : BitVec 32) : Fin 1 → Nat :=
  let c2_i32_48_r0 : BitVec 32 := 2#32
  let v54_r0 : BitVec 32 := Scalar.remui v33_3_r0 c2_i32_48_r0
  ![v54_r0.toNat]
def k3_off21 (v33_3_r0 : BitVec 32) : Fin 3 → Nat :=
  let c2_i32_48_r0 : BitVec 32 := 2#32
  let v54_r0 : BitVec 32 := Scalar.remui v33_3_r0 c2_i32_48_r0
  let c0_i32_54_r0 : BitVec 32 := 0#32
  let c0_i32_55_r0 : BitVec 32 := 0#32
  ![v54_r0.toNat, 0, 0]

def k3_chk4 (v33_3_r0 : BitVec 32) : Prop :=
  (∀ a, (k3_off18 v33_3_r0) a + S1x256x128.size a ≤ S2x256x128.size a) ∧
  (∀ a, (k3_off20 v33_3_r0) a + S1.size a ≤ S2.size a) ∧
  (∀ a, (k3_off21 v33_3_r0) a + S1x256x128.size a ≤ S2x256x128.size a)
theorem k3_off18_inb : ∀ (v33_3_r0 : BitVec 32) (k3_hw4 : k3_chk4 v33_3_r0), ∀ a, (k3_off18 v33_3_r0) a + S1x256x128.size a ≤ S2x256x128.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x256x128.size a ≤ S2x256x128.size a := fun v33_3_r0 k3_hw4 => k3_hw4.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16x64x32x32 : Shape := ⟨4, ![16, 64, 32, 32]⟩
abbrev S4096x32 : Shape := ⟨2, ![4096, 32]⟩
abbrev S16x32x32x32 : Shape := ⟨4, ![16, 32, 32, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S32x4096 : Shape := ⟨2, ![32, 4096]⟩
abbrev S16384x4096 : Shape := ⟨2, ![16384, 4096]⟩
abbrev S4096 : Shape := ⟨1, ![4096]⟩
abbrev S1x4096 : Shape := ⟨2, ![1, 4096]⟩
abbrev S1 : Shape := ⟨1, ![1]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S4096x32, .f32⟩
  | .hbm, ⟨2, _⟩ => ⟨S4096x32, .f32⟩
  | .hbm, ⟨3, _⟩ => ⟨S16x32x32x32, .f32⟩
  | .hbm, ⟨4, _⟩ => ⟨S16x32x32x32, .f32⟩
  | .hbm, ⟨5, _⟩ => ⟨S16x32x32x32, .f32⟩
  | .hbm, ⟨6, _⟩ => ⟨S16384x32, .f32⟩
  | .hbm, ⟨7, _⟩ => ⟨S16384x32, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S32x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S4096x32, .f32⟩
  | .hbm, ⟨19, _⟩ => ⟨S_, .f32⟩
  | .hbm, ⟨20, _⟩ => ⟨S4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S16384x4096, .i32⟩
  | .hbm, ⟨25, _⟩ => ⟨S_, .f32⟩
  | .hbm, ⟨26, _⟩ => ⟨S_, .i32⟩
  | .hbm, ⟨27, _⟩ => ⟨S16384, .f32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S1, .i32⟩
  | .hbm, ⟨38, _⟩ => ⟨S_, .i32⟩
  | .hbm, ⟨39, _⟩ => ⟨S16384x1, .i32⟩
  | .hbm, ⟨40, _⟩ => ⟨S16384x1, .i1⟩
  | .hbm, ⟨41, _⟩ => ⟨S1x1, .i32⟩
  | .hbm, ⟨42, _⟩ => ⟨S16384x1, .i32⟩
  | .hbm, ⟨43, _⟩ => ⟨S16384x1, .i1⟩
  | .hbm, ⟨44, _⟩ => ⟨S16384x1, .i1⟩
  | .hbm, ⟨45, _⟩ => ⟨S_, .i1⟩
  | .hbm, ⟨46, _⟩ => ⟨S16384, .i1⟩
  | .hbm, ⟨47, _⟩ => ⟨S16384x32, .f32⟩
  | .hbm, ⟨48, _⟩ => ⟨S16384x32, .i1⟩
  | .hbm, ⟨49, _⟩ => ⟨S_, .f32⟩
  | .hbm, ⟨50, _⟩ => ⟨S16384x32, .f32⟩
  | .hbm, ⟨51, _⟩ => ⟨S16384x32, .f32⟩
  | .hbm, ⟨52, _⟩ => ⟨S16x32x32x32, .f32⟩
  | .hbm, ⟨53, _⟩ => ⟨S16x32x32x32, .f32⟩
  | .hbm, ⟨54, _⟩ => ⟨S16x32x32x32, .f32⟩
  | .hbm, ⟨55, _⟩ => ⟨S16x32x32x32, .f32⟩
  | .hbm, ⟨56, _⟩ => ⟨S16x32x32x32, .f32⟩
  | .hbm, ⟨57, _⟩ => ⟨S16384x32, .f32⟩
  | .hbm, ⟨58, _⟩ => ⟨S16384x32, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S32x4096, .f32⟩
  | .hbm, ⟨63, _⟩ => ⟨S16384x4096, .f32⟩
  | .hbm, ⟨64, _⟩ => ⟨S_, .f32⟩
  | .hbm, ⟨65, _⟩ => ⟨S16384x4096, .f32⟩
  | .hbm, ⟨66, _⟩ => ⟨S16384x4096, .f32⟩
  | .hbm, ⟨67, _⟩ => ⟨S16384x4096, .f32⟩
  | .hbm, ⟨68, _⟩ => ⟨S16384x4096, .f32⟩
  | .hbm, ⟨69, _⟩ => ⟨S4096x32, .f32⟩
  | .hbm, ⟨70, _⟩ => ⟨S_, .f32⟩
  | .hbm, ⟨71, _⟩ => ⟨S4096, .f32⟩
  | .hbm, ⟨72, _⟩ => ⟨S1x4096, .f32⟩
  | .hbm, ⟨73, _⟩ => ⟨S16384x4096, .f32⟩
  | .hbm, ⟨74, _⟩ => ⟨S16384x4096, .f32⟩
  | .hbm, ⟨75, _⟩ => ⟨S16384x4096, .i32⟩
  | .hbm, ⟨76, _⟩ => ⟨S_, .f32⟩
  | .hbm, ⟨77, _⟩ => ⟨S_, .i32⟩
  | .hbm, ⟨78, _⟩ => ⟨S16384, .f32⟩
  | .hbm, ⟨79, _⟩ => ⟨S16384, .i32⟩
  | .hbm, ⟨80, _⟩ => ⟨S_, .i32⟩
  | .hbm, ⟨81, _⟩ => ⟨S16384, .i32⟩
  | .hbm, ⟨82, _⟩ => ⟨S16384, .i1⟩
  | .hbm, ⟨83, _⟩ => ⟨S_, .i32⟩
  | .hbm, ⟨84, _⟩ => ⟨S16384, .i32⟩
  | .hbm, ⟨85, _⟩ => ⟨S16384, .i32⟩
  | .hbm, ⟨86, _⟩ => ⟨S16384, .i32⟩
  | .hbm, ⟨87, _⟩ => ⟨S16384x1, .i32⟩
  | .hbm, ⟨88, _⟩ => ⟨S1, .i32⟩
  | .hbm, ⟨89, _⟩ => ⟨S_, .i32⟩
  | .hbm, ⟨90, _⟩ => ⟨S16384x1, .i32⟩
  | .hbm, ⟨91, _⟩ => ⟨S16384x1, .i1⟩
  | .hbm, ⟨92, _⟩ => ⟨S1x1, .i32⟩
  | .hbm, ⟨93, _⟩ => ⟨S16384x1, .i32⟩
  | .hbm, ⟨94, _⟩ => ⟨S16384x1, .i1⟩
  | .hbm, ⟨95, _⟩ => ⟨S16384x1, .i1⟩
  | .hbm, ⟨96, _⟩ => ⟨S_, .i1⟩
  | .hbm, ⟨97, _⟩ => ⟨S16384, .i1⟩
  | .hbm, ⟨98, _⟩ => ⟨S16384x32, .f32⟩
  | .hbm, ⟨99, _⟩ => ⟨S16384x32, .i1⟩
  | .hbm, ⟨100, _⟩ => ⟨S_, .f32⟩
  | .hbm, ⟨101, _⟩ => ⟨S16384x32, .f32⟩
  | .hbm, ⟨102, _⟩ => ⟨S16384x32, .f32⟩
  | .hbm, ⟨103, _⟩ => ⟨S16x32x32x32, .f32⟩
  | .hbm, ⟨104, _⟩ => ⟨S16x32x32x32, .f32⟩
  | .hbm, ⟨105, _⟩ => ⟨S16x32x32x32, .f32⟩
  | .hbm, ⟨106, _⟩ => ⟨S16x32x32x32, .f32⟩
  | .hbm, ⟨107, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_cst : Ref sig .tc := ⟨.hbm, 25, rfl⟩
abbrev main_call0_c : Ref sig .tc := ⟨.hbm, 26, rfl⟩
abbrev main_call0_v1_0 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_3 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_4 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_call2_v0 : Ref sig .tc := ⟨.hbm, 75, rfl⟩
abbrev main_call2_cst : Ref sig .tc := ⟨.hbm, 76, rfl⟩
abbrev main_call2_c : Ref sig .tc := ⟨.hbm, 77, rfl⟩
abbrev main_call2_v1_0 : Ref sig .tc := ⟨.hbm, 78, rfl⟩
abbrev main_v40 : Ref sig .tc := ⟨.hbm, 79, rfl⟩
abbrev main_call3_c : Ref sig .tc := ⟨.hbm, 80, rfl⟩
abbrev main_call3_v0 : Ref sig .tc := ⟨.hbm, 81, rfl⟩
abbrev main_call3_v1 : Ref sig .tc := ⟨.hbm, 82, rfl⟩
abbrev main_call3_c_0 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_c_1 : Ref sig .tc := ⟨.hbm, 88, rfl⟩
abbrev main_call3_c_2 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_call3_c_3 : Ref sig .tc := ⟨.hbm, 96, rfl⟩
abbrev main_call3_v12 : Ref sig .tc := ⟨.hbm, 97, rfl⟩
abbrev main_call3_v13 : Ref sig .tc := ⟨.hbm, 98, rfl⟩
abbrev main_call3_v14 : Ref sig .tc := ⟨.hbm, 99, rfl⟩
abbrev main_call3_cst : Ref sig .tc := ⟨.hbm, 100, rfl⟩
abbrev main_call3_v15 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩

abbrev nD : Nat := 1
abbrev τ : Topo := Topo.v7x

variable {F : FTy → Type} [FloatOps F]
-- ==== Proof.Tile.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## Words of the schedule, at each of the 32 tiles -/

/-- The coordinates of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_eta (i : grid1.Coords) : i = coordsV (i 0) (i 1) := by
  funext a; match a with | 0 => rfl | 1 => rfl

/-- A statement about every tile's coordinates is one about each pair of numbers. -/
theorem forall_coords {p : grid1.Coords → Prop} (h : ∀ (c : Fin 2) (s : Fin 16), p (coordsV c s)) (i : grid1.Coords) : p i :=
  coordsV_eta i ▸ h (i 0) (i 1)

/-- The first of the 256 list entries of block `n` of a tile. -/
def blk (i : grid1.Coords) (n : Nat) : Nat := 256 * (2 * ((i 1).val + 16 * (i 0).val) + n)

theorem blk_le (i : grid1.Coords) (n : Nat) (hn : n < 2) : blk i n + 256 ≤ 16384 :=
  forall_coords (p := fun i => ∀ n : Fin 2, blk i n + 256 ≤ 16384) (by decide) i ⟨n, hn⟩

/-- Twice the tile's number, as the program computes it. -/
def w2 (i : grid1.Coords) : BitVec 32 :=
  Scalar.muli (Scalar.addi (Scalar.addi 0#32 (Scalar.muli (BitVec.ofNat 32 (i 1).val) 1#32)) (Scalar.muli (BitVec.ofNat 32 (i 0).val) 16#32)) 2#32

abbrev t0 : Fin k1_t1_loop.trips := ⟨0, by decide⟩
abbrev t1 : Fin k1_t1_loop.trips := ⟨1, by decide⟩

theorem off2_eq (i : grid1.Coords) : k1_off2 i = ![0, blk i 0] := forall_coords (p := fun i => k1_off2 i = ![0, blk i 0]) (by decide) i
theorem off5_eq (i : grid1.Coords) : k1_off5 i 0#32 = ![0, blk i 1] := forall_coords (p := fun i => k1_off5 i 0#32 = ![0, blk i 1]) (by decide) i
theorem off8_eq0 (i : grid1.Coords) : k1_off8 i 0#32 = ![0, blk i 0] := forall_coords (p := fun i => k1_off8 i 0#32 = ![0, blk i 0]) (by decide) i
theorem off8_eq1 (i : grid1.Coords) : k1_off8 i 1#32 = ![0, blk i 1] := forall_coords (p := fun i => k1_off8 i 1#32 = ![0, blk i 1]) (by decide) i
theorem off13_eq0 (i : grid1.Coords) : k1_off13 i 0#32 = ![blk i 0, 0] := forall_coords (p := fun i => k1_off13 i 0#32 = ![blk i 0, 0]) (by decide) i
theorem off13_eq1 (i : grid1.Coords) : k1_off13 i 1#32 = ![blk i 1, 0] := forall_coords (p := fun i => k1_off13 i 1#32 = ![blk i 1, 0]) (by decide) i
theorem off16_eq1 (i : grid1.Coords) : k1_off16 i 1#32 = ![blk i 0, 0] := forall_coords (p := fun i => k1_off16 i 1#32 = ![blk i 0, 0]) (by decide) i
theorem off19_eq (i : grid1.Coords) : k1_off19 i 0#32 = ![blk i 1, 0] := forall_coords (p := fun i => k1_off19 i 0#32 = ![blk i 1, 0]) (by decide) i
theorem off4_eq : k1_off4 1#32 = ![1, 0, 0] := by decide
theorem off7_eq0 : k1_off7 0#32 = ![0, 0, 0] := by decide
theorem off7_eq1 : k1_off7 1#32 = ![1, 0, 0] := by decide
theorem off10_eq0 : k1_off10 0#32 = ![0, 0, 0] := by decide
theorem off10_eq1 : k1_off10 1#32 = ![1, 0, 0] := by decide
theorem off11_eq0 : k1_off11 0#32 = ![0, 0, 0] := by decide
theorem off11_eq1 : k1_off11 1#32 = ![1, 0, 0] := by decide
theorem off12_eq0 : k1_off12 0#32 = ![0, 0, 0] := by decide
theorem off12_eq1 : k1_off12 1#32 = ![1, 0, 0] := by decide
theorem off15_eq : k1_off15 0#32 = ![0, 0, 0] := by decide
theorem off21_eq : k1_off21 1#32 = ![1, 0, 0] := by decide
theorem off6_eq : k1_off6 1#32 = ![1] := by decide
theorem off9_eq0 : k1_off9 0#32 = ![0] := by decide
theorem off9_eq1 : k1_off9 1#32 = ![1] := by decide
theorem off14_eq0 : k1_off14 0#32 = ![0] := by decide
theorem off14_eq1 : k1_off14 1#32 = ![1] := by decide
theorem off17_eq : k1_off17 0#32 = ![0] := by decide
theorem off20_eq : k1_off20 1#32 = ![1] := by decide

theorem cond1_0 (i : grid1.Coords) : k1_cond1 i t0 0#32 = 1#1 := forall_coords (p := fun i => k1_cond1 i t0 0#32 = 1#1) (by decide) i
theorem cond1_1 (i : grid1.Coords) : k1_cond1 i t1 1#32 ≠ 1#1 := forall_coords (p := fun i => k1_cond1 i t1 1#32 ≠ 1#1) (by decide) i
theorem cond2_0 (i : grid1.Coords) : k1_cond2 i t0 0#32 = 1#1 := forall_coords (p := fun i => k1_cond2 i t0 0#32 = 1#1) (by decide) i
theorem cond2_1 (i : grid1.Coords) : k1_cond2 i t1 1#32 = 1#1 := forall_coords (p := fun i => k1_cond2 i t1 1#32 = 1#1) (by decide) i
theorem cond5_0 (i : grid1.Coords) : k1_cond5 i t0 0#32 = 1#1 := forall_coords (p := fun i => k1_cond5 i t0 0#32 = 1#1) (by decide) i
theorem cond5_1 (i : grid1.Coords) : k1_cond5 i t1 1#32 = 1#1 := forall_coords (p := fun i => k1_cond5 i t1 1#32 = 1#1) (by decide) i
theorem cond7_0 (i : grid1.Coords) : k1_cond7 i t0 0#32 ≠ 1#1 := forall_coords (p := fun i => k1_cond7 i t0 0#32 ≠ 1#1) (by decide) i
theorem cond7_1 (i : grid1.Coords) : k1_cond7 i t1 1#32 = 1#1 := forall_coords (p := fun i => k1_cond7 i t1 1#32 = 1#1) (by decide) i

theorem inb_idx (i : grid1.Coords) (n : Nat) (hn : n < 2) : ∀ a, (![0, blk i n] : Fin 2 → Nat) a + S1x256.size a ≤ S1x16384.size a := by
  intro a; match a with
  | 0 => exact (by decide : 0 + S1x256.size 0 ≤ S1x16384.size 0)
  | 1 => exact blk_le i n hn
theorem inb_out (i : grid1.Coords) (n : Nat) (hn : n < 2) : ∀ a, (![blk i n, 0] : Fin 2 → Nat) a + S256x128.size a ≤ S16384x128.size a := by
  intro a; match a with
  | 0 => exact blk_le i n hn
  | 1 => exact (by decide : 0 + S256x128.size 1 ≤ S16384x128.size 1)
theorem inb_is (n : Nat) (hn : n < 2) : ∀ a, (![n, 0, 0] : Fin 3 → Nat) a + S1x1x256.size a ≤ S2x1x256.size a :=
  (by decide : ∀ n : Fin 2, ∀ a, (![n.val, 0, 0] : Fin 3 → Nat) a + S1x1x256.size a ≤ S2x1x256.size a) ⟨n, hn⟩
theorem inb_os (n : Nat) (hn : n < 2) : ∀ a, (![n, 0, 0] : Fin 3 → Nat) a + S1x256x128.size a ≤ S2x256x128.size a :=
  (by decide : ∀ n : Fin 2, ∀ a, (![n.val, 0, 0] : Fin 3 → Nat) a + S1x256x128.size a ≤ S2x256x128.size a) ⟨n, hn⟩
theorem inb_sem (n : Nat) (hn : n < 2) : ∀ a, (![n] : Fin 1 → Nat) a + S1.size a ≤ S2.size a :=
  (by decide : ∀ n : Fin 2, ∀ a, (![n.val] : Fin 1 → Nat) a + S1.size a ≤ S2.size a) ⟨n, hn⟩

theorem lt0 : 0 < 2 := by decide
theorem lt1 : 1 < 2 := by decide

theorem chk3_0 : k1_chk3 0#32 := by unfold k1_chk3; rw [off11_eq0]; exact inb_is 0 lt0
theorem chk3_1 : k1_chk3 1#32 := by unfold k1_chk3; rw [off11_eq1]; exact inb_is 1 lt1
theorem chk2_0 : k1_chk2 0#32 := by unfold k1_chk2; rw [off10_eq0]; exact inb_os 0 lt0
theorem chk2_1 : k1_chk2 1#32 := by unfold k1_chk2; rw [off10_eq1]; exact inb_os 1 lt1
theorem chk1_0 (i : grid1.Coords) : k1_chk1 i t0 1#32 0#32 0#32 0#32 0#32 := by
  unfold k1_chk1
  rw [off4_eq, off5_eq, off6_eq, off7_eq0, off8_eq0, off9_eq0, off12_eq0, off13_eq0, off14_eq0]
  exact ⟨fun _ => inb_is 1 lt1, fun _ => inb_idx i 1 lt1, fun _ => inb_sem 1 lt1, fun _ => inb_is 0 lt0, fun _ => inb_idx i 0 lt0, fun _ => inb_sem 0 lt0,
    fun _ => inb_os 0 lt0, fun _ => inb_out i 0 lt0, fun _ => inb_sem 0 lt0, fun h => absurd h (cond7_0 i), fun h => absurd h (cond7_0 i), fun h => absurd h (cond7_0 i)⟩
theorem chk1_1 (i : grid1.Coords) : k1_chk1 i t1 2#32 1#32 1#32 0#32 1#32 := by
  unfold k1_chk1
  rw [off7_eq1, off8_eq1, off9_eq1, off12_eq1, off13_eq1, off14_eq1, off15_eq, off16_eq1, off17_eq]
  exact ⟨fun h => absurd h (cond1_1 i), fun h => absurd h (cond1_1 i), fun h => absurd h (cond1_1 i), fun _ => inb_is 1 lt1, fun _ => inb_idx i 1 lt1, fun _ => inb_sem 1 lt1,
    fun _ => inb_os 1 lt1, fun _ => inb_out i 1 lt1, fun _ => inb_sem 1 lt1, fun _ => inb_os 0 lt0, fun _ => inb_out i 0 lt0, fun _ => inb_sem 0 lt0⟩
theorem chk5 (i : grid1.Coords) : k1_chk5 i 0#32 := by unfold k1_chk5; rw [off19_eq]; exact inb_out i 1 lt1
theorem chk4 : k1_chk4 1#32 := by unfold k1_chk4; rw [off21_eq, off20_eq]; exact ⟨by decide, inb_sem 1 lt1, inb_os 1 lt1⟩

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipelines' rounds, the transfers' counters. -/
abbrev UH : Type := URounds (GSem nD τ sig) ℕ
abbrev UP : Type := URounds (GSem nD τ sig) Unit
abbrev UU : Type := UH × UP × Counters

local notation "𝕄" => MT nD τ sig (HIx 2) (Elt F) ℕ UU ℕ

/-- Row `w[0, p 0]` of a table, at column `p 1`: what a gather of 256 listed rows holds at `p`. -/
def gat (ft : S4096x128.Idx → Elt F .f32) (w : S1x256.Idx → Elt F .i32) : S256x128.Idx → Elt F .f32 := fun p =>
  ft (ix2 (n0 := 4096) (n1 := 128) ⟨(w (ix2 (n0 := 1) (n1 := 256) 0 (p 0))).toNat % 4096, Nat.mod_lt _ (by decide)⟩ (p 1))

section Body

variable [FloatOps F]
variable (i : grid1.Coords) (d : Dev nD)
variable (arg2 : Memref sig .scVector .hbm S4096x128 .f32) (harg2 : arg2.IsWhole) (arg3 : Memref sig .scVector .hbm S1x16384 .i32) (harg3 : arg3.IsWhole)
  (arg4 : Memref sig .scVector .hbm S16384x128 .f32) (harg4 : arg4.IsWhole) (ai : Memref sig .scVector .vmem S2x1x256 .i32) (hai : ai.IsWhole) (si : DmaSems sig S2)
  (ao : Memref sig .scVector .vmem S2x256x128 .f32) (hao : ao.IsWhole) (so : DmaSems sig S2) (sg : DmaSems sig S_)

abbrev thr : Thread nD τ := V d ((i 0).castLE hcore1) ((i 1).castLE hsub1)

/-- Block `n` of the tile's list entries, and of the rows it writes; slot `n` of each double buffer, as a copy names it and as the gather names it. -/
abbrev idxB (n : Nat) (hn : n < 2) : Memref sig .scVector .hbm S1x256 .i32 := arg3.slice (Rect.unit (s := S1x16384) ![0, blk i n] S1x256.size (inb_idx i n hn)) (fun _ => rfl)
abbrev outB (n : Nat) (hn : n < 2) : Memref sig .scVector .hbm S256x128 .f32 := arg4.slice (Rect.unit (s := S16384x128) ![blk i n, 0] S256x128.size (inb_out i n hn)) (fun _ => rfl)
abbrev iS (n : Nat) (hn : n < 2) : Memref sig .scVector .vmem S1x256 .i32 :=
  (ai.slice (Rect.unit (s := S2x1x256) ![n, 0, 0] S1x1x256.size (inb_is n hn)) (fun _ => rfl)).squeeze S1x256 squeezes_S1x1x256_S1x256
abbrev oS (n : Nat) (hn : n < 2) : Memref sig .scVector .vmem S256x128 .f32 :=
  (ao.slice (Rect.unit (s := S2x256x128) ![n, 0, 0] S1x256x128.size (inb_os n hn)) (fun _ => rfl)).squeeze S256x128 squeezes_S1x256x128_S256x128
abbrev semN (s : DmaSems sig S2) (n : Nat) (hn : n < 2) : DmaSem sig := ((s.slice (Rect.unit (s := S2) ![n] S1.size (inb_sem n hn))).squeeze S_ squeezes_S1_S_).sem

/-- Slot `n` of the list buffer as the gather names it: the 256 words in a row. -/
abbrev gS (n : Nat) (hn : n < 2) : Memref sig .scVector .vmem S256 .i32 :=
  ((iS ai n hn).slice (Rect.unit (s := S1x256) ![0, 0] S1x256.size inb_S1x256_S1x256_0_0) (fun _ => rfl)).squeeze S256 squeezes_S1x256_S256
abbrev tAll : Memref sig .scVector .hbm S4096x128 .f32 := arg2.slice (Rect.unit (s := S4096x128) ![0, 0] S4096x128.size inb_S4096x128_S4096x128_0_0) (fun _ => rfl)

omit [FloatOps F] in
theorem set_gS (n : Nat) (hn : n < 2) : (gS ai n hn).view.set = (iS ai n hn).view.set := by
  show (((iS ai n hn).view.slice _).reshape S256 _).set = _
  rw [View.set_reshape, View.set_slice]
  have : (Rect.unit (s := S1x256) ![0, 0] S1x256.size inb_S1x256_S1x256_0_0).set = Finset.univ := by decide +kernel
  rw [this]; rfl

omit [FloatOps F] in
theorem set_tAll : (tAll arg2).view.set = arg2.view.set := by
  show (arg2.view.slice _).set = _
  rw [View.set_slice]
  have : (Rect.unit (s := S4096x128) ![0, 0] S4096x128.size inb_S4096x128_S4096x128_0_0) = Rect.whole S4096x128 := by
    exact Rect.unit_congr (by funext a; match a with | 0 => rfl | 1 => rfl) _ _
  rw [this, Rect.set_whole]; rfl

omit [FloatOps F] in
theorem read_gS (n : Nat) (hn : n < 2) (f : Buf (Elt F) (ai.view.loc (thr i d))) (x : S256.Idx) :
    (gS ai n hn).view.read (Elt F) f x = (iS ai n hn).view.read (Elt F) f (ix2 (n0 := 1) (n1 := 256) 0 (x 0)) := by
  have e : (gS ai n hn).view.emb x = (iS ai n hn).view.emb (ix2 (n0 := 1) (n1 := 256) 0 (x 0)) := by
    show (iS ai n hn).view.emb ((Rect.unit (s := S1x256) ![0, 0] S1x256.size inb_S1x256_S1x256_0_0).emb (Shape.reshapeEquiv squeezes_S1x256_S256.numel_eq x)) = _
    congr 1
    rw [show Shape.reshapeEquiv squeezes_S1x256_S256.numel_eq x = ix2 (n0 := 1) (n1 := 256) 0 (x 0) from
      Shape.reshapeEquiv_eq_of_rowMajor _ ((Shape.rowMajor_val_two (d := ![1, 256]) (ix2 (n0 := 1) (n1 := 256) 0 (x 0))).trans
        (by rw [Shape.rowMajor_val_one (d := ![256])]; simp))]
    funext a; match a with
    | 0 => rfl
    | 1 => exact Fin.ext (by simp [Rect.emb, Rect.unit])
  rw [View.read_apply, View.read_apply]; exact congrArg (fun z => cast _ (f z)) e

omit [FloatOps F] in
theorem read_tAll (f : Buf (Elt F) (arg2.view.loc (thr i d))) : (tAll arg2).view.read (Elt F) f = arg2.view.read (Elt F) f := by
  funext x
  have e : (tAll arg2).view.emb x = arg2.view.emb x := by
    show arg2.view.emb ((Rect.unit (s := S4096x128) ![0, 0] S4096x128.size inb_S4096x128_S4096x128_0_0).emb x) = _
    congr 1
    funext a; match a with
    | 0 => exact Fin.ext (by simp [Rect.emb, Rect.unit])
    | 1 => exact Fin.ext (by simp [Rect.emb, Rect.unit])
  rw [View.read_apply, View.read_apply]; exact congrArg (fun z => cast _ (f z)) e

omit [FloatOps F] in
theorem gatherPayload_eq (g : S4096x128.Idx → Elt F .f32) (l : S256.Idx → Elt F .i32) (w : S1x256.Idx → Elt F .i32)
    (hn : S256.numel = S256x128.size gathers_S4096x128_S256x128.axis') (h : ∀ x, (l x).toNat < S4096x128.size gathers_S4096x128_S256x128.axis)
    (hl : ∀ x, l x = w (ix2 (n0 := 1) (n1 := 256) 0 (x 0))) :
    SparseCore.gatherPayload gathers_S4096x128_S256x128 g (SparseCore.rows l hn h) = gat g w := by
  funext p
  unfold SparseCore.gatherPayload gat
  congr 1
  funext a; match a with
  | 0 =>
    refine Fin.ext ?_
    have h0 := Shape.Gathers.idx_axis gathers_S4096x128_S256x128 (SparseCore.rows l hn h) p
    refine (congrArg Fin.val h0).trans ?_
    show (l (S256.rowMajor.symm _)).toNat = (w _).toNat % 4096
    have hlt := h (S256.rowMajor.symm ((p 0).cast hn.symm))
    have hr : S256.rowMajor.symm ((p 0).cast hn.symm) = ix1 (n0 := 256) (p 0) := by
      rw [Equiv.symm_apply_eq]; refine Fin.ext ?_
      exact ((Shape.rowMajor_val_one (d := ![256]) (ix1 (n0 := 256) (p 0)))).symm
    have hl' := hl (S256.rowMajor.symm ((p 0).cast hn.symm))
    rw [hl'] at hlt
    refine (congrArg BitVec.toNat hl').trans ?_
    rw [hr] at hlt ⊢
    exact (Nat.mod_eq_of_lt hlt).symm
  | 1 => exact Fin.ext (Shape.Gathers.idx_of_ne gathers_S4096x128_S256x128 (SparseCore.rows l hn h) p 1 (by decide))

set_option maxHeartbeats 4000000 in
theorem part2_run (O : CellTallies nD τ sig (HIx 2)) (W : Waits sig (HIx 2))
    (n : Nat) (hn : n < 2) (t : Fin k1_t1_loop.trips) (a6 a7 a8 a9 a10 : BitVec 32) (h3 : k1_chk3 a7) (h2 : k1_chk2 a8) (h1 : k1_chk1 i t a6 a7 a8 a9 a10)
    (v5 : BitVec 32) (b1 b2 : BitVec 1) (v66 v71 v76 : BitVec 32) (b3 : BitVec 1)
    (hc : k1_cond2 i t a10 = 1#1) (e7 : k1_off7 a7 = ![n, 0, 0]) (e8 : k1_off8 i a10 = ![0, blk i n]) (e9 : k1_off9 a7 = ![n])
    (e10 : k1_off10 a8 = ![n, 0, 0]) (e11 : k1_off11 a7 = ![n, 0, 0])
    (q : PosShare TreeShare) (ft : Buf (Elt F) (arg2.view.loc (thr i d)))
    (fx : Buf (Elt F) (arg3.view.loc (thr i d)))
    (fi : Buf (Elt F) (ai.view.loc (thr i d))) (fr : Buf (Elt F) (ao.view.loc (thr i d)))
    (hin : ∀ x, ((idxB i arg3 n hn).view.read (Elt F) fx x).toNat < 4096) :
    iprop(Transfers.MayWaits (thr i d) (default : HIx 2) O
        ∗ (arg2.view.loc (thr i d) ↦[arg2.view.set]{q} ft)
        ∗ Transfers.Flight countersEmb (thr i d) (SemLoc.dma (semN si n hn)) (default : HIx 2) 8192
            iprop(((iS ai n hn).view.loc (thr i d) ↦[(iS ai n hn).view.set]{fullShare}
                (iS ai n hn).view.writes (Elt F) fi [⟨Rect.whole S1x256, (idxB i arg3 n hn).view.read (Elt F) fx⟩])
              ∗ ((idxB i arg3 n hn).view.loc (thr i d) ↦[(idxB i arg3 n hn).view.set]{fullShare} fx))
        ∗ ((oS ao n hn).view.loc (thr i d) ↦[(oS ao n hn).view.set]{fullShare} fr)
        ∗ semVal (thr i d, .dma sg.sem) 0
        ∗ owes (thr i d) O W)
    ⊢ wp frame (wpE (defs₀ (F := F)) 𝒱₀ (thr i d) none) Set.univ (k1_part2 i arg2 harg2 arg3 harg3 arg4 harg4 ai hai si ao hao so sg t a6 a7 a8 a9 a10 h3 h2 h1 v5 b1 b2 v66 v71 v76 b3)
        fun _ => (iprop((arg2.view.loc (thr i d) ↦[arg2.view.set]{q} ft)
          ∗ ((iS ai n hn).view.loc (thr i d) ↦[(iS ai n hn).view.set]{fullShare}
                (iS ai n hn).view.writes (Elt F) fi [⟨Rect.whole S1x256, (idxB i arg3 n hn).view.read (Elt F) fx⟩])
          ∗ ((idxB i arg3 n hn).view.loc (thr i d) ↦[(idxB i arg3 n hn).view.set]{fullShare} fx)
          ∗ (∃ fr', ⌜(oS ao n hn).view.read (Elt F) fr' = gat (arg2.view.read (Elt F) ft) ((idxB i arg3 n hn).view.read (Elt F) fx)⌝
              ∗ ((oS ao n hn).view.loc (thr i d) ↦[(oS ao n hn).view.set]{fullShare} fr'))
          ∗ semVal (thr i d, .dma (semN si n hn)) 0 ∗ semVal (thr i d, .dma sg.sem) 0
          ∗ ∃ W', ⌜∀ p ∈ W', p ∈ W ∨ p.2 = none⌝ ∗ owes (thr i d) O W') : sProp 𝕄) := by
  rw [k1_part2_eq_skeleton]; unfold k1_part2_skel
  iintro ⟨#Hmw, Ht, Hfl, Hr, Hsg, HO⟩
  rw [dif_pos hc]
  simp (config := { iota := false, proj := false, eta := false }) only [Memref.slice_unit_congr arg3 e8 _ (inb_idx i n hn) _ (fun _ => rfl),
    Memref.slice_unit_congr ai e7 _ (inb_is n hn) _ (fun _ => rfl), SemArray.slice_unit_congr si e9 _ (inb_sem n hn),
    Memref.slice_unit_congr ai e11 _ (inb_is n hn) _ (fun _ => rfl), Memref.slice_unit_congr ao e10 _ (inb_os n hn) _ (fun _ => rfl)]
  sl_exec
  ihave Hl := (Entails.of_eq (show ((iS ai n hn).view.loc (thr i d) ↦[(iS ai n hn).view.set]{fullShare} _ : sProp 𝕄)
      = (gS ai n hn).view.loc (thr i d) ↦[(gS ai n hn).view.set]{fullShare} _ by rw [set_gS])) $$ Hfl_dst
  ihave Ht' := (Entails.of_eq (show ((arg2.view.loc (thr i d)) ↦[arg2.view.set]{q} ft : sProp 𝕄)
      = (tAll arg2).view.loc (thr i d) ↦[(tAll arg2).view.set]{q} ft by rw [set_tAll])) $$ Ht
  have hin' : ∀ x, ((gS ai n hn).view.read (Elt F) ((iS ai n hn).view.writes (Elt F) fi [⟨Rect.whole S1x256, (idxB i arg3 n hn).view.read (Elt F) fx⟩]) x).toNat
      < S4096x128.size gathers_S4096x128_S256x128.axis := by
    intro x; rw [read_gS i d, View.read_writes_whole]; exact hin _
  iapply (SparseCore.wp_indirectGatherLocal countersEmb 𝒱₀ (thr i d) none (hg := gathers_S4096x128_S256x128) (default : HIx 2)
      (oS ao n hn).view.dmaCredit (SparseCore.sum_rowCredit_eq_dmaCredit _ _ (fun _ => rfl)) (by decide) hin') $$ [Ht' Hr Hl Hsg]
  · isplitl [Ht']; · iexact Ht'
    isplitl [Hr]; · iexact Hr
    isplitl [Hl]; · iexact Hl
    iexact Hsg
  iintro Hg
  sl_exec
  iapply (Transfers.wp_waitLocalO countersEmb 𝒱₀ (thr i d) none (default : HIx 2) (rfl : (oS ao n hn).view.dmaCredit = _)) $$ [Hg HO]
  · isplitl [Hg]; · iexact Hg
    isplitl [HO]; · iexact HO
    iapply (Transfers.MayWaits.elim (SemLoc.dma sg.sem)) $$ Hmw
  iintro ⟨⟨Hr, Ht, Hl⟩, Hsg, HO⟩
  sl_step
  simp (config := { iota := false, proj := false, eta := false }) only [ite_self]
  sl_step
  isplitl [Ht]
  · iapply (Entails.of_eq (show ((tAll arg2).view.loc (thr i d) ↦[(tAll arg2).view.set]{q} ft : sProp 𝕄) = (arg2.view.loc (thr i d)) ↦[arg2.view.set]{q} ft by rw [set_tAll])); iexact Ht
  isplitl [Hl]
  · iapply (Entails.of_eq (show ((gS ai n hn).view.loc (thr i d) ↦[(gS ai n hn).view.set]{fullShare} _ : sProp 𝕄)
      = (iS ai n hn).view.loc (thr i d) ↦[(iS ai n hn).view.set]{fullShare} _ by rw [set_gS])); iexact Hl
  isplitl [Hfl_src]; · iexact Hfl_src
  isplitl [Hr]
  · iexists _; isplitr
    swap; · iexact Hr
    ipureintro
    rw [View.read_write_univ]
    have hr := read_tAll i d arg2 ft
    refine (congrArg (fun g => SparseCore.gatherPayload gathers_S4096x128_S256x128 g _) hr).trans ?_
    exact gatherPayload_eq _ _ _ _ hin' fun x => by rw [read_gS i d, View.read_writes_whole]
  isplitl [Hfl]; · iexact Hfl
  isplitl [Hsg]; · iexact Hsg
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

/-- Holding a window's own elements outright. -/
abbrev Own {sp : Space} {s : Shape} {e : EltTy} (m : Memref sig .scVector sp s e) (f : Buf (Elt F) (m.view.loc (thr i d))) : sProp 𝕄 :=
  m.view.loc (thr i d) ↦[m.view.set]{fullShare} f

/-- Block `n` of the list on its way into slot `n`. -/
abbrev FlI (n : Nat) (hn : n < 2) (fx : Buf (Elt F) (arg3.view.loc (thr i d))) (fi : Buf (Elt F) (ai.view.loc (thr i d))) : sProp 𝕄 :=
  Transfers.Flight countersEmb (thr i d) (SemLoc.dma (semN si n hn)) (default : HIx 2) 8192
    iprop(((iS ai n hn).view.loc (thr i d) ↦[(iS ai n hn).view.set]{fullShare}
        (iS ai n hn).view.writes (Elt F) fi [⟨Rect.whole S1x256, (idxB i arg3 n hn).view.read (Elt F) fx⟩])
      ∗ ((idxB i arg3 n hn).view.loc (thr i d) ↦[(idxB i arg3 n hn).view.set]{fullShare} fx))

/-- Slot `n` of the rows on its way out to block `n`. -/
abbrev FlO (n : Nat) (hn : n < 2) (fo : Buf (Elt F) (arg4.view.loc (thr i d))) (fr : Buf (Elt F) (ao.view.loc (thr i d))) : sProp 𝕄 :=
  Transfers.Flight countersEmb (thr i d) (SemLoc.dma (semN so n hn)) (default : HIx 2) (outB i arg4 n hn).view.dmaCredit
    iprop(((outB i arg4 n hn).view.loc (thr i d) ↦[(outB i arg4 n hn).view.set]{fullShare}
        (outB i arg4 n hn).view.write (Elt F) fo ((oS ao n hn).view.read (Elt F) fr) Finset.univ)
      ∗ ((oS ao n hn).view.loc (thr i d) ↦[(oS ao n hn).view.set]{fullShare} fr))

theorem ne01 (i : grid1.Coords) : Scalar.cmpi .ne (Scalar.addi 0#32 (w2 i)) (Scalar.addi 1#32 (w2 i)) = 1#1 :=
  forall_coords (p := fun i => Scalar.cmpi .ne (Scalar.addi 0#32 (w2 i)) (Scalar.addi 1#32 (w2 i)) = 1#1) (by decide) i
theorem ne10 (i : grid1.Coords) : Scalar.cmpi .ne (Scalar.addi 1#32 (w2 i)) (Scalar.addi 0#32 (w2 i)) = 1#1 :=
  forall_coords (p := fun i => Scalar.cmpi .ne (Scalar.addi 1#32 (w2 i)) (Scalar.addi 0#32 (w2 i)) = 1#1) (by decide) i

set_option maxHeartbeats 4000000 in
theorem part1_run0 (O : CellTallies nD τ sig (HIx 2)) (W : Waits sig (HIx 2))
    (fx : Buf (Elt F) (arg3.view.loc (thr i d))) (fi : Buf (Elt F) (ai.view.loc (thr i d))) :
    iprop(Own i d (idxB i arg3 1 lt1) fx ∗ Own i d (iS ai 1 lt1) fi
        ∗ semVal (thr i d, .dma (semN si 1 lt1)) 0 ∗ owes (thr i d) O W)
    ⊢ wp frame (wpE (defs₀ (F := F)) 𝒱₀ (thr i d) none) Set.univ
        (k1_part1 i arg2 harg2 arg3 harg3 arg4 harg4 ai hai si ao hao so sg (w2 i) 0#32 1#32 t0 1#32 0#32 0#32 0#32 0#32)
        fun r => (iprop(⌜∃ h3 h2 h1 v5 v91 v96, r = ⟨h3, h2, h1, v5, 1#1, 0#1, Scalar.addi 0#32 (w2 i), Scalar.addi 1#32 (w2 i), Scalar.addi 1#32 (w2 i), v91, v96⟩ ∧ v91 = 2#32⌝
          ∗ FlI i d arg3 ai si 1 lt1 fx fi ∗ owes (thr i d) O W) : sProp 𝕄) := by
  rw [k1_part1_eq_skeleton]; unfold k1_part1_skel
  have c3 := chk3_0
  have c2 := chk2_0
  have c1 := chk1_0 i
  iintro ⟨Hx, Hi, Hsi, HO⟩
  sl_exec
  simp (config := { iota := false, proj := false, eta := false }) only [dif_pos (cond1_0 i),
    Memref.slice_unit_congr arg3 (off5_eq i) _ (inb_idx i 1 lt1) _ (fun _ => rfl),
    Memref.slice_unit_congr ai off4_eq _ (inb_is 1 lt1) _ (fun _ => rfl), SemArray.slice_unit_congr si off6_eq _ (inb_sem 1 lt1)]
  sl_exec
  sl_step
  isplitr
  · ipureintro
    refine ⟨c3, c2, c1, _, _, _, rfl, ?_⟩
    show Scalar.select (Scalar.andi (Scalar.andi (Scalar.cmpi (w := 32) .ne (Scalar.addi 0#32 (w2 i)) (Scalar.addi 1#32 (w2 i))) 1#1) 1#1) (Scalar.addi 1#32 1#32) 1#32 = _
    rw [ne01]; rfl
  isplitl [Hsi]; · iexact Hsi
  iexact HO

set_option maxHeartbeats 4000000 in
theorem part1_run1 (O : CellTallies nD τ sig (HIx 2)) (W : Waits sig (HIx 2)) :
    (owes (thr i d) O W : sProp 𝕄)
    ⊢ wp frame (wpE (defs₀ (F := F)) 𝒱₀ (thr i d) none) Set.univ
        (k1_part1 i arg2 harg2 arg3 harg3 arg4 harg4 ai hai si ao hao so sg (w2 i) 0#32 1#32 t1 2#32 1#32 1#32 0#32 1#32)
        fun r => (iprop(⌜∃ h3 h2 h1 v5 v91 v96, r = ⟨h3, h2, h1, v5, 0#1, 1#1, Scalar.addi 1#32 (w2 i), Scalar.addi 0#32 (w2 i), Scalar.addi 0#32 (w2 i), v91, v96⟩ ∧ v91 = 2#32⌝
          ∗ owes (thr i d) O W) : sProp 𝕄) := by
  rw [k1_part1_eq_skeleton]; unfold k1_part1_skel
  have c3 := chk3_1
  have c2 := chk2_1
  have c1 := chk1_1 i
  iintro HO
  sl_exec
  simp (config := { iota := false, proj := false, eta := false }) only [dif_neg (cond1_1 i)]
  sl_exec
  sl_step
  isplitr
  · ipureintro
    refine ⟨c3, c2, c1, _, _, _, rfl, ?_⟩
    show Scalar.select (Scalar.andi (Scalar.andi (Scalar.cmpi (w := 32) .ne (Scalar.addi 1#32 (w2 i)) (Scalar.addi 0#32 (w2 i))) 0#1) 1#1) (Scalar.addi 2#32 1#32) 2#32 = _
    rw [ne10]; rfl
  iexact HO

/-- Sending slot `n` of the rows out to block `n` puts that copy in flight. -/
theorem out_issue (n : Nat) (hn : n < 2) (fo : Buf (Elt F) (arg4.view.loc (thr i d))) (fr : Buf (Elt F) (ao.view.loc (thr i d)))
    (h1 : (oS ao n hn).view.WordExact) (h2 : (outB i arg4 n hn).view.WordExact)
    (h3 : DmaTarget.Typed (nD := nD) (p := (thr i d).2) .vmem (SemLoc.dma (semN so n hn)) (.here (outB i arg4 n hn))) :
    iprop(Own i d (oS ao n hn) fr ∗ Own i d (outB i arg4 n hn) fo ∗ semVal (thr i d, .dma (semN so n hn)) 0)
    ⊢ wp frame (wpE (defs₀ (F := F)) 𝒱₀ (thr i d) none) Set.univ
        (do Prog.lift (TpuEff.enqueueDma (oS ao n hn) (.here (outB i arg4 n hn)) (.dma (semN so n hn)) h1 h2 h3)
            pure (⟨⟩ : PUnit))
        fun _ => (FlO i d arg4 ao so n hn fo fr : sProp 𝕄) := by
  iintro ⟨Hr, Ho, Hs⟩
  iapply (Transfers.wp_dmaLocal countersEmb 𝒱₀ (thr i d) none (default : HIx 2) (outB i arg4 n hn).view.dmaCredit rfl
    (View.dmaCredit_pos _ (by decide)) (Finset.Subset.refl _)) $$ [Hr Ho Hs]
  · isplitl [Hr]; · iexact Hr
    isplitl [Ho]; · iexact Ho
    iexact Hs
  iintro H
  simp only [Prog.bind]
  sl_step
  iexact H

/-- Waiting for that copy hands back the block, now holding the slot's rows, and the slot. -/
theorem out_wait (O : CellTallies nD τ sig (HIx 2)) (W : Waits sig (HIx 2))
    (n : Nat) (hn : n < 2) (fo : Buf (Elt F) (arg4.view.loc (thr i d))) (fr : Buf (Elt F) (ao.view.loc (thr i d)))
    (h1 : (oS ao n hn).view.WordExact) (h2 : (outB i arg4 n hn).view.WordExact) :
    iprop(Transfers.MayWaits (thr i d) (default : HIx 2) O ∗ FlO i d arg4 ao so n hn fo fr ∗ owes (thr i d) O W)
    ⊢ wp frame (wpE (defs₀ (F := F)) 𝒱₀ (thr i d) none) Set.univ
        (Prog.lift (TpuEff.waitDma2 (semN so n hn) (oS ao n hn) (outB i arg4 n hn) h1 h2))
        fun _ => (iprop(Own i d (outB i arg4 n hn) ((outB i arg4 n hn).view.write (Elt F) fo ((oS ao n hn).view.read (Elt F) fr) Finset.univ)
          ∗ Own i d (oS ao n hn) fr ∗ semVal (thr i d, .dma (semN so n hn)) 0
          ∗ ∃ W', ⌜∀ p ∈ W', p ∈ W ∨ p.2 = none⌝ ∗ owes (thr i d) O W') : sProp 𝕄) := by
  iintro ⟨#Hmw, Hf, HO⟩
  iapply (Transfers.wp_waitLocalO countersEmb 𝒱₀ (thr i d) none (default : HIx 2) (rfl : (outB i arg4 n hn).view.dmaCredit = _)) $$ [Hf HO]
  · isplitl [Hf]; · iexact Hf
    isplitl [HO]; · iexact HO
    iapply (Transfers.MayWaits.elim (SemLoc.dma (semN so n hn))) $$ Hmw
  iintro ⟨⟨Ho, Hr⟩, Hs, HO⟩
  sl_step
  isplitl [Ho]; · iexact Ho
  isplitl [Hr]; · iexact Hr
  isplitl [Hs]; · iexact Hs
  iexists _; isplitr
  swap; · iexact HO
  ipureintro; intro p hp
  rcases Finset.mem_insert.mp hp with hp | hp; · exact .inr (hp ▸ rfl)
  exact .inl hp

set_option maxHeartbeats 4000000 in
theorem trip0 (O : CellTallies nD τ sig (HIx 2)) (W : Waits sig (HIx 2))
    (q : PosShare TreeShare) (ft : Buf (Elt F) (arg2.view.loc (thr i d)))
    (fx : Buf (Elt F) (arg3.view.loc (thr i d))) (fo : Buf (Elt F) (arg4.view.loc (thr i d)))
    (fi fi' : Buf (Elt F) (ai.view.loc (thr i d))) (fr : Buf (Elt F) (ao.view.loc (thr i d)))
    (hin : ∀ x, ((idxB i arg3 0 lt0).view.read (Elt F) fx x).toNat < 4096) :
    iprop(Transfers.MayWaits (thr i d) (default : HIx 2) O
        ∗ (arg2.view.loc (thr i d) ↦[arg2.view.set]{q} ft)
        ∗ FlI i d arg3 ai si 0 lt0 fx fi ∗ Own i d (idxB i arg3 1 lt1) fx ∗ Own i d (iS ai 1 lt1) fi'
        ∗ Own i d (oS ao 0 lt0) fr ∗ Own i d (outB i arg4 0 lt0) fo
        ∗ semVal (thr i d, .dma (semN si 1 lt1)) 0 ∗ semVal (thr i d, .dma (semN so 0 lt0)) 0 ∗ semVal (thr i d, .dma sg.sem) 0
        ∗ owes (thr i d) O W)
    ⊢ wp frame (wpE (defs₀ (F := F)) 𝒱₀ (thr i d) none) Set.univ
        (k1_t1_body i arg2 harg2 arg3 harg3 arg4 harg4 ai hai si ao hao so sg (w2 i) t0 (1#32, 0#32, 0#32, 0#32, 0#32))
        fun r => (iprop(⌜r = (2#32, 1#32, 1#32, 0#32, 1#32)⌝
          ∗ (arg2.view.loc (thr i d) ↦[arg2.view.set]{q} ft)
          ∗ FlI i d arg3 ai si 1 lt1 fx fi' ∗ Own i d (idxB i arg3 0 lt0) fx ∗ (∃ f, Own i d (iS ai 0 lt0) f)
          ∗ (∃ fr', ⌜(oS ao 0 lt0).view.read (Elt F) fr' = gat (arg2.view.read (Elt F) ft) ((idxB i arg3 0 lt0).view.read (Elt F) fx)⌝
              ∗ FlO i d arg4 ao so 0 lt0 fo fr')
          ∗ semVal (thr i d, .dma (semN si 0 lt0)) 0 ∗ semVal (thr i d, .dma sg.sem) 0
          ∗ ∃ W', ⌜∀ p ∈ W', p ∈ W ∨ p.2 = none⌝ ∗ owes (thr i d) O W') : sProp 𝕄) := by
  unfold k1_t1_body
  iintro ⟨#Hmw, Ht, Hfl, Hx, Hi, Hr, Ho, Hsi, Hso, Hsg, HO⟩
  iapply (exec_cut frame (wpE (defs₀ (F := F)) 𝒱₀ (thr i d) none) Set.univ
    (part1_run0 i d arg2 harg2 arg3 harg3 arg4 harg4 ai hai si ao hao so sg O W fx fi')) $$ [Hx Hi Hsi HO]
  · isplitl [Hx]; · iexact Hx
    isplitl [Hi]; · iexact Hi
    isplitl [Hsi]; · iexact Hsi
    iexact HO
  iintro %r ⟨%hr, Hfl', HO⟩
  obtain ⟨h3, h2, h1, v5, v91, v96, rfl, rfl⟩ := hr
  iapply (exec_cut frame (wpE (defs₀ (F := F)) 𝒱₀ (thr i d) none) Set.univ
    (part2_run i d arg2 harg2 arg3 harg3 arg4 harg4 ai hai si ao hao so sg O W 0 lt0 t0 _ _ _ _ _ h3 h2 h1 _ _ _ _ _ _ _
      (cond2_0 i) off7_eq0 (off8_eq0 i) off9_eq0 off10_eq0 off11_eq0 q ft fx fi fr hin)) $$ [Ht Hfl Hr Hsg HO]
  · isplitr; · iexact Hmw
    isplitl [Ht]; · iexact Ht
    isplitl [Hfl]; · iexact Hfl
    isplitl [Hr]; · iexact Hr
    isplitl [Hsg]; · iexact Hsg
    iexact HO
  iintro %r ⟨Ht, Hi0, Hx0, ⟨%fr', %hfr, Hr⟩, Hsi0, Hsg, ⟨%W', %hW, HO⟩⟩
  sl_exec
  simp (config := { iota := false, proj := false, eta := false }) only [dif_pos (cond5_0 i), ite_self,
    Memref.slice_unit_congr arg4 (off13_eq0 i) _ (inb_out i 0 lt0) _ (fun _ => rfl),
    Memref.slice_unit_congr ao off12_eq0 _ (inb_os 0 lt0) _ (fun _ => rfl), SemArray.slice_unit_congr so off14_eq0 _ (inb_sem 0 lt0)]
  iapply (exec_cut frame (wpE (defs₀ (F := F)) 𝒱₀ (thr i d) none) Set.univ
    (out_issue i d arg4 ao so 0 lt0 fo fr' _ _ _)) $$ [Hr Ho Hso]
  · isplitl [Hr]; · iexact Hr
    isplitl [Ho]; · iexact Ho
    iexact Hso
  iintro %_ Hso
  simp (config := { iota := false, proj := false, eta := false }) only [dif_neg (cond7_0 i)]
  sl_exec
  sl_step
  isplitr
  · ipureintro
    show (2#32, Scalar.select (Scalar.ori (Scalar.cmpi .ne (Scalar.addi 0#32 (w2 i)) (Scalar.addi 1#32 (w2 i))) 0#1) (Scalar.addi 0#32 1#32) 0#32,
      Scalar.select (Scalar.andi (Scalar.ori (Scalar.cmpi .ne (Scalar.addi 0#32 (w2 i)) (Scalar.addi 1#32 (w2 i))) 0#1) 1#1) (Scalar.addi 0#32 1#32) 0#32,
      Scalar.select (Scalar.andi (Scalar.andi (Scalar.cmpi (w := 32) .ne (Scalar.addi 0#32 (w2 i)) (Scalar.addi 1#32 (w2 i))) 0#1) 1#1) (Scalar.addi 0#32 1#32) 0#32, 1#32) = _
    rw [ne01]; rfl
  isplitl [Ht]; · iexact Ht
  isplitl [Hfl']; · iexact Hfl'
  isplitl [Hx0]; · iexact Hx0
  isplitl [Hi0]; · iexists _; iexact Hi0
  isplitl [Hso]
  · iexists fr'; isplitr
    · ipureintro; exact hfr
    iexact Hso
  isplitl [Hsi0]; · iexact Hsi0
  isplitl [Hsg]; · iexact Hsg
  iexists W'; isplitr
  · ipureintro; exact hW
  iexact HO

set_option maxHeartbeats 4000000 in
theorem trip1 (O : CellTallies nD τ sig (HIx 2)) (W : Waits sig (HIx 2))
    (q : PosShare TreeShare) (ft : Buf (Elt F) (arg2.view.loc (thr i d)))
    (fx : Buf (Elt F) (arg3.view.loc (thr i d))) (fo : Buf (Elt F) (arg4.view.loc (thr i d)))
    (fi : Buf (Elt F) (ai.view.loc (thr i d))) (fr fr0 : Buf (Elt F) (ao.view.loc (thr i d)))
    (hin : ∀ x, ((idxB i arg3 1 lt1).view.read (Elt F) fx x).toNat < 4096) :
    iprop(Transfers.MayWaits (thr i d) (default : HIx 2) O
        ∗ (arg2.view.loc (thr i d) ↦[arg2.view.set]{q} ft)
        ∗ FlI i d arg3 ai si 1 lt1 fx fi ∗ FlO i d arg4 ao so 0 lt0 fo fr0
        ∗ Own i d (oS ao 1 lt1) fr ∗ Own i d (outB i arg4 1 lt1) fo
        ∗ semVal (thr i d, .dma (semN so 1 lt1)) 0 ∗ semVal (thr i d, .dma sg.sem) 0
        ∗ owes (thr i d) O W)
    ⊢ wp frame (wpE (defs₀ (F := F)) 𝒱₀ (thr i d) none) Set.univ
        (k1_t1_body i arg2 harg2 arg3 harg3 arg4 harg4 ai hai si ao hao so sg (w2 i) t1 (2#32, 1#32, 1#32, 0#32, 1#32))
        fun r => (iprop(⌜r = (2#32, 2#32, 2#32, 1#32, 0#32)⌝
          ∗ (arg2.view.loc (thr i d) ↦[arg2.view.set]{q} ft)
          ∗ Own i d (idxB i arg3 1 lt1) fx ∗ (∃ f, Own i d (iS ai 1 lt1) f)
          ∗ Own i d (outB i arg4 0 lt0) ((outB i arg4 0 lt0).view.write (Elt F) fo ((oS ao 0 lt0).view.read (Elt F) fr0) Finset.univ)
          ∗ Own i d (oS ao 0 lt0) fr0
          ∗ (∃ fr', ⌜(oS ao 1 lt1).view.read (Elt F) fr' = gat (arg2.view.read (Elt F) ft) ((idxB i arg3 1 lt1).view.read (Elt F) fx)⌝
              ∗ FlO i d arg4 ao so 1 lt1 fo fr')
          ∗ semVal (thr i d, .dma (semN si 1 lt1)) 0 ∗ semVal (thr i d, .dma (semN so 0 lt0)) 0 ∗ semVal (thr i d, .dma sg.sem) 0
          ∗ ∃ W', ⌜∀ p ∈ W', p ∈ W ∨ p.2 = none⌝ ∗ owes (thr i d) O W') : sProp 𝕄) := by
  unfold k1_t1_body
  iintro ⟨#Hmw, Ht, Hfl, Hfo, Hr, Ho, Hso, Hsg, HO⟩
  iapply (exec_cut frame (wpE (defs₀ (F := F)) 𝒱₀ (thr i d) none) Set.univ
    (part1_run1 i d arg2 harg2 arg3 harg3 arg4 harg4 ai hai si ao hao so sg O W)) $$ [HO]
  · iexact HO
  iintro %r ⟨%hr, HO⟩
  obtain ⟨h3, h2, h1, v5, v91, v96, rfl, rfl⟩ := hr
  iapply (exec_cut frame (wpE (defs₀ (F := F)) 𝒱₀ (thr i d) none) Set.univ
    (part2_run i d arg2 harg2 arg3 harg3 arg4 harg4 ai hai si ao hao so sg O W 1 lt1 t1 _ _ _ _ _ h3 h2 h1 _ _ _ _ _ _ _
      (cond2_1 i) off7_eq1 (off8_eq1 i) off9_eq1 off10_eq1 off11_eq1 q ft fx fi fr hin)) $$ [Ht Hfl Hr Hsg HO]
  · isplitr; · iexact Hmw
    isplitl [Ht]; · iexact Ht
    isplitl [Hfl]; · iexact Hfl
    isplitl [Hr]; · iexact Hr
    isplitl [Hsg]; · iexact Hsg
    iexact HO
  iintro %r ⟨Ht, Hi1, Hx1, ⟨%fr', %hfr, Hr⟩, Hsi1, Hsg, ⟨%W', %hW, HO⟩⟩
  sl_exec
  simp (config := { iota := false, proj := false, eta := false }) only [dif_pos (cond5_1 i), ite_self,
    Memref.slice_unit_congr arg4 (off13_eq1 i) _ (inb_out i 1 lt1) _ (fun _ => rfl),
    Memref.slice_unit_congr ao off12_eq1 _ (inb_os 1 lt1) _ (fun _ => rfl), SemArray.slice_unit_congr so off14_eq1 _ (inb_sem 1 lt1)]
  iapply (exec_cut frame (wpE (defs₀ (F := F)) 𝒱₀ (thr i d) none) Set.univ
    (out_issue i d arg4 ao so 1 lt1 fo fr' _ _ _)) $$ [Hr Ho Hso]
  · isplitl [Hr]; · iexact Hr
    isplitl [Ho]; · iexact Ho
    iexact Hso
  iintro %_ Hso
  simp (config := { iota := false, proj := false, eta := false }) only [dif_pos (cond7_1 i), ite_self,
    Memref.slice_unit_congr arg4 (off16_eq1 i) _ (inb_out i 0 lt0) _ (fun _ => rfl),
    Memref.slice_unit_congr ao off15_eq _ (inb_os 0 lt0) _ (fun _ => rfl), SemArray.slice_unit_congr so off17_eq _ (inb_sem 0 lt0)]
  iapply (exec_cut frame (wpE (defs₀ (F := F)) 𝒱₀ (thr i d) none) Set.univ
    (out_wait i d arg4 ao so O W' 0 lt0 fo fr0 ((View.wordExact_bits rfl).reshape _ _) (View.wordExact_bits rfl))) $$ [Hfo HO]
  · isplitr; · iexact Hmw
    isplitl [Hfo]; · iexact Hfo
    iexact HO
  iintro %_ ⟨Ho0, Hr0, Hs0, ⟨%W'', %hW', HO⟩⟩
  sl_exec
  sl_step
  isplitr
  · ipureintro
    show (2#32, Scalar.select (Scalar.ori (Scalar.cmpi .ne (Scalar.addi 1#32 (w2 i)) (Scalar.addi 0#32 (w2 i))) 1#1) (Scalar.addi 1#32 1#32) 1#32,
      Scalar.select (Scalar.andi (Scalar.ori (Scalar.cmpi .ne (Scalar.addi 1#32 (w2 i)) (Scalar.addi 0#32 (w2 i))) 1#1) 1#1) (Scalar.addi 1#32 1#32) 1#32,
      Scalar.select (Scalar.andi (Scalar.andi (Scalar.cmpi .ne (Scalar.addi 1#32 (w2 i)) (Scalar.addi 0#32 (w2 i))) 1#1) 1#1) (Scalar.addi 0#32 1#32) 0#32, 0#32) = _
    rw [ne10]; rfl
  isplitl [Ht]; · iexact Ht
  isplitl [Hx1]; · iexact Hx1
  isplitl [Hi1]; · iexists _; iexact Hi1
  isplitl [Ho0]; · iexact Ho0
  isplitl [Hr0]; · iexact Hr0
  isplitl [Hso]
  · iexists fr'; isplitr
    · ipureintro; exact hfr
    iexact Hso
  isplitl [Hsi1]; · iexact Hsi1
  isplitl [Hs0]; · iexact Hs0
  isplitl [Hsg]; · iexact Hsg
  iexists W''; isplitr
  · ipureintro; exact fun p hp => (hW' p hp).elim (hW p) .inr
  iexact HO

/-- The loop is its two trips, one after the other. -/
theorem loop_eq {c : Thread nD τ} (init : BitVec 32 × BitVec 32 × BitVec 32 × BitVec 32 × BitVec 32)
    (body : Fin k1_t1_loop.trips → _ → Prog (TpuEff nD τ sig (Elt F) Λ₀ c.2) (BitVec 32 × BitVec 32 × BitVec 32 × BitVec 32 × BitVec 32)) :
    Scf.Loop.for k1_t1_loop k1_t1_ok init body = (body t0 init >>= fun a => body t1 a) := by
  unfold Scf.Loop.for
  rw [Scf.for_unroll _ _ _ _ _ _ 2 (by decide)]
  simp only [show List.finRange 2 = [0, 1] from rfl, Scf.forFrom_cons, Scf.forFrom_nil]
  refine congrArg (body t0 init >>= ·) (funext fun a => ?_)
  exact bind_pure (body t1 a)

/-- What block `n` of the output holds once the tile has run: the rows that the list's block names. -/
abbrev outVal (n : Nat) (hn : n < 2) (ft : Buf (Elt F) (arg2.view.loc (thr i d))) (fx : Buf (Elt F) (arg3.view.loc (thr i d)))
    (fo : Buf (Elt F) (arg4.view.loc (thr i d))) : Buf (Elt F) (arg4.view.loc (thr i d)) :=
  (outB i arg4 n hn).view.write (Elt F) fo (gat (arg2.view.read (Elt F) ft) ((idxB i arg3 n hn).view.read (Elt F) fx)) Finset.univ

/-- The kernel's first part sends for block 0 of the list. -/
theorem part3_run (fx : Buf (Elt F) (arg3.view.loc (thr i d))) (fi : Buf (Elt F) (ai.view.loc (thr i d))) :
    iprop(Own i d (idxB i arg3 0 lt0) fx ∗ Own i d (iS ai 0 lt0) fi ∗ semVal (thr i d, .dma (semN si 0 lt0)) 0)
    ⊢ wp frame (wpE (defs₀ (F := F)) 𝒱₀ (thr i d) none) Set.univ
        (k1_part3 i arg2 harg2 arg3 harg3 arg4 harg4 ai hai si ao hao so sg)
        fun r => (iprop(⌜r = w2 i⌝ ∗ FlI i d arg3 ai si 0 lt0 fx fi) : sProp 𝕄) := by
  rw [k1_part3_eq_skeleton]; unfold k1_part3_skel
  iintro ⟨Hx, Hi, Hs⟩
  simp (config := { iota := false, proj := false, eta := false }) only [
    Memref.slice_unit_congr arg3 (off2_eq i) _ (inb_idx i 0 lt0) _ (fun _ => rfl),
    Memref.slice_unit_congr ai k1_off1_eq _ (inb_is 0 lt0) _ (fun _ => rfl), SemArray.slice_unit_congr si k1_off3_eq _ (inb_sem 0 lt0)]
  sl_exec
  sl_step
  isplitr
  · ipureintro; rfl
  iexact Hs

/-- The loop: both trips. -/
theorem loop_run (O : CellTallies nD τ sig (HIx 2)) (W : Waits sig (HIx 2))
    (q : PosShare TreeShare) (ft : Buf (Elt F) (arg2.view.loc (thr i d)))
    (fx : Buf (Elt F) (arg3.view.loc (thr i d))) (fo : Buf (Elt F) (arg4.view.loc (thr i d)))
    (fi : Buf (Elt F) (ai.view.loc (thr i d))) (fr : Buf (Elt F) (ao.view.loc (thr i d)))
    (hin : ∀ n hn x, ((idxB i arg3 n hn).view.read (Elt F) fx x).toNat < 4096) :
    iprop(Transfers.MayWaits (thr i d) (default : HIx 2) O
        ∗ (arg2.view.loc (thr i d) ↦[arg2.view.set]{q} ft)
        ∗ FlI i d arg3 ai si 0 lt0 fx fi ∗ Own i d (idxB i arg3 1 lt1) fx ∗ Own i d (iS ai 1 lt1) fi
        ∗ Own i d (oS ao 0 lt0) fr ∗ Own i d (oS ao 1 lt1) fr ∗ Own i d (outB i arg4 0 lt0) fo ∗ Own i d (outB i arg4 1 lt1) fo
        ∗ semVal (thr i d, .dma (semN si 1 lt1)) 0
        ∗ semVal (thr i d, .dma (semN so 0 lt0)) 0 ∗ semVal (thr i d, .dma (semN so 1 lt1)) 0 ∗ semVal (thr i d, .dma sg.sem) 0
        ∗ owes (thr i d) O W)
    ⊢ wp frame (wpE (defs₀ (F := F)) 𝒱₀ (thr i d) none) Set.univ
        (Scf.Loop.for k1_t1_loop k1_t1_ok (1#32, 0#32, 0#32, 0#32, 0#32)
          (k1_t1_body i arg2 harg2 arg3 harg3 arg4 harg4 ai hai si ao hao so sg (w2 i)))
        fun r => (iprop(⌜r = (2#32, 2#32, 2#32, 1#32, 0#32)⌝
          ∗ (arg2.view.loc (thr i d) ↦[arg2.view.set]{q} ft)
          ∗ Own i d (idxB i arg3 0 lt0) fx ∗ Own i d (idxB i arg3 1 lt1) fx
          ∗ (∃ f, Own i d (iS ai 0 lt0) f) ∗ (∃ f, Own i d (iS ai 1 lt1) f)
          ∗ (∃ f, Own i d (oS ao 0 lt0) f)
          ∗ Own i d (outB i arg4 0 lt0) (outVal i d arg2 arg3 arg4 0 lt0 ft fx fo)
          ∗ (∃ fr', ⌜(oS ao 1 lt1).view.read (Elt F) fr' = gat (arg2.view.read (Elt F) ft) ((idxB i arg3 1 lt1).view.read (Elt F) fx)⌝
              ∗ FlO i d arg4 ao so 1 lt1 fo fr')
          ∗ semVal (thr i d, .dma (semN si 0 lt0)) 0 ∗ semVal (thr i d, .dma (semN si 1 lt1)) 0
          ∗ semVal (thr i d, .dma (semN so 0 lt0)) 0 ∗ semVal (thr i d, .dma sg.sem) 0
          ∗ ∃ W', ⌜∀ p ∈ W', p ∈ W ∨ p.2 = none⌝ ∗ owes (thr i d) O W') : sProp 𝕄) := by
  rw [loop_eq (c := thr i d)]
  iintro ⟨#Hmw, Ht, Hf, Hx1, Hi1, Hr0, Hr1, Ho0, Ho1, Hsi1, Hso0, Hso1, Hsg, HO⟩
  iapply (exec_cut frame (wpE (defs₀ (F := F)) 𝒱₀ (thr i d) none) Set.univ
    (trip0 i d arg2 harg2 arg3 harg3 arg4 harg4 ai hai si ao hao so sg O W q ft fx fo fi fi fr (hin 0 lt0))) $$ [Ht Hf Hx1 Hi1 Hr0 Ho0 Hsi1 Hso0 Hsg HO]
  · isplitr; · iexact Hmw
    isplitl [Ht]; · iexact Ht
    isplitl [Hf]; · iexact Hf
    isplitl [Hx1]; · iexact Hx1
    isplitl [Hi1]; · iexact Hi1
    isplitl [Hr0]; · iexact Hr0
    isplitl [Ho0]; · iexact Ho0
    isplitl [Hsi1]; · iexact Hsi1
    isplitl [Hso0]; · iexact Hso0
    isplitl [Hsg]; · iexact Hsg
    iexact HO
  iintro %r ⟨%hr, Ht, Hf, Hx0, Hi0, ⟨%fr0, %hfr0, Hfo⟩, Hsi0, Hsg, ⟨%W1, %hW1, HO⟩⟩
  subst hr
  iapply (exec_cut_last frame (wpE (defs₀ (F := F)) 𝒱₀ (thr i d) none) Set.univ
    (trip1 i d arg2 harg2 arg3 harg3 arg4 harg4 ai hai si ao hao so sg O W1 q ft fx fo fi fr fr0 (hin 1 lt1))) $$ [Ht Hf Hfo Hr1 Ho1 Hso1 Hsg HO]
  · isplitr; · iexact Hmw
    isplitl [Ht]; · iexact Ht
    isplitl [Hf]; · iexact Hf
    isplitl [Hfo]; · iexact Hfo
    isplitl [Hr1]; · iexact Hr1
    isplitl [Ho1]; · iexact Ho1
    isplitl [Hso1]; · iexact Hso1
    isplitl [Hsg]; · iexact Hsg
    iexact HO
  iintro %r ⟨%hr, Ht, Hx1, Hi1, Ho0, Hr0, Hfo, Hsi1, Hso0, Hsg, ⟨%W2, %hW2, HO⟩⟩
  isplitr; · ipureintro; exact hr
  isplitl [Ht]; · iexact Ht
  isplitl [Hx0]; · iexact Hx0
  isplitl [Hx1]; · iexact Hx1
  isplitl [Hi0]; · iexact Hi0
  isplitl [Hi1]; · iexact Hi1
  isplitl [Hr0]; · iexists _; iexact Hr0
  isplitl [Ho0]
  · rw [hfr0]; iexact Ho0
  isplitl [Hfo]; · iexact Hfo
  isplitl [Hsi0]; · iexact Hsi0
  isplitl [Hsi1]; · iexact Hsi1
  isplitl [Hso0]; · iexact Hso0
  isplitl [Hsg]; · iexact Hsg
  iexists W2; isplitr
  · ipureintro; exact fun p hp => (hW2 p hp).elim (hW1 p) .inr
  iexact HO

set_option maxHeartbeats 4000000 in
/-- The tile's run: both blocks of its part of the list are gathered, through the two slots, into its part of the output. -/
theorem tile_run (O : CellTallies nD τ sig (HIx 2)) (W : Waits sig (HIx 2))
    (q : PosShare TreeShare) (ft : Buf (Elt F) (arg2.view.loc (thr i d)))
    (fx : Buf (Elt F) (arg3.view.loc (thr i d))) (fo : Buf (Elt F) (arg4.view.loc (thr i d)))
    (fi : Buf (Elt F) (ai.view.loc (thr i d))) (fr : Buf (Elt F) (ao.view.loc (thr i d)))
    (hin : ∀ n hn x, ((idxB i arg3 n hn).view.read (Elt F) fx x).toNat < 4096) :
    iprop(Transfers.MayWaits (thr i d) (default : HIx 2) O
        ∗ (arg2.view.loc (thr i d) ↦[arg2.view.set]{q} ft)
        ∗ Own i d (idxB i arg3 0 lt0) fx ∗ Own i d (idxB i arg3 1 lt1) fx ∗ Own i d (iS ai 0 lt0) fi ∗ Own i d (iS ai 1 lt1) fi
        ∗ Own i d (oS ao 0 lt0) fr ∗ Own i d (oS ao 1 lt1) fr ∗ Own i d (outB i arg4 0 lt0) fo ∗ Own i d (outB i arg4 1 lt1) fo
        ∗ semVal (thr i d, .dma (semN si 0 lt0)) 0 ∗ semVal (thr i d, .dma (semN si 1 lt1)) 0
        ∗ semVal (thr i d, .dma (semN so 0 lt0)) 0 ∗ semVal (thr i d, .dma (semN so 1 lt1)) 0 ∗ semVal (thr i d, .dma sg.sem) 0
        ∗ owes (thr i d) O W)
    ⊢ wp frame (wpE (defs₀ (F := F)) 𝒱₀ (thr i d) none) Set.univ
        (cc1_gather_kernel i arg2 harg2 arg3 harg3 arg4 harg4 ai hai si ao hao so sg)
        fun _ => (iprop((arg2.view.loc (thr i d) ↦[arg2.view.set]{q} ft)
          ∗ Own i d (idxB i arg3 0 lt0) fx ∗ Own i d (idxB i arg3 1 lt1) fx
          ∗ (∃ f, Own i d (iS ai 0 lt0) f) ∗ (∃ f, Own i d (iS ai 1 lt1) f)
          ∗ (∃ f, Own i d (oS ao 0 lt0) f) ∗ (∃ f, Own i d (oS ao 1 lt1) f)
          ∗ Own i d (outB i arg4 0 lt0) (outVal i d arg2 arg3 arg4 0 lt0 ft fx fo)
          ∗ Own i d (outB i arg4 1 lt1) (outVal i d arg2 arg3 arg4 1 lt1 ft fx fo)
          ∗ semVal (thr i d, .dma (semN si 0 lt0)) 0 ∗ semVal (thr i d, .dma (semN si 1 lt1)) 0
          ∗ semVal (thr i d, .dma (semN so 0 lt0)) 0 ∗ semVal (thr i d, .dma (semN so 1 lt1)) 0 ∗ semVal (thr i d, .dma sg.sem) 0
          ∗ ∃ W', ⌜∀ p ∈ W', p ∈ W ∨ p.2 = none⌝ ∗ owes (thr i d) O W') : sProp 𝕄) := by
  rw [cc1_gather_kernel_eq_skeleton]; unfold cc1_gather_kernel_skel
  iintro ⟨#Hmw, Ht, Hx0, Hx1, Hi0, Hi1, Hr0, Hr1, Ho0, Ho1, Hsi0, Hsi1, Hso0, Hso1, Hsg, HO⟩
  iapply (exec_cut frame (wpE (defs₀ (F := F)) 𝒱₀ (thr i d) none) Set.univ
    (part3_run i d arg2 harg2 arg3 harg3 arg4 harg4 ai hai si ao hao so sg fx fi)) $$ [Hx0 Hi0 Hsi0]
  · isplitl [Hx0]; · iexact Hx0
    isplitl [Hi0]; · iexact Hi0
    iexact Hsi0
  iintro %r ⟨%hr, Hf⟩
  subst hr
  rw [k1_part4_eq_skeleton]; unfold k1_part4_skel
  have c5 := chk5 i
  have c4 := chk4
  simp (config := { iota := false, proj := false, eta := false }) only [bind_assoc]
  iapply (exec_cut frame (wpE (defs₀ (F := F)) 𝒱₀ (thr i d) none) Set.univ
    (loop_run i d arg2 harg2 arg3 harg3 arg4 harg4 ai hai si ao hao so sg O W q ft fx fo fi fr hin)) $$ [Ht Hf Hx1 Hi1 Hr0 Hr1 Ho0 Ho1 Hsi1 Hso0 Hso1 Hsg HO]
  · isplitr; · iexact Hmw
    isplitl [Ht]; · iexact Ht
    isplitl [Hf]; · iexact Hf
    isplitl [Hx1]; · iexact Hx1
    isplitl [Hi1]; · iexact Hi1
    isplitl [Hr0]; · iexact Hr0
    isplitl [Hr1]; · iexact Hr1
    isplitl [Ho0]; · iexact Ho0
    isplitl [Ho1]; · iexact Ho1
    isplitl [Hsi1]; · iexact Hsi1
    isplitl [Hso0]; · iexact Hso0
    isplitl [Hso1]; · iexact Hso1
    isplitl [Hsg]; · iexact Hsg
    iexact HO
  iintro %r ⟨%hr, Ht, Hx0, Hx1, Hi0, Hi1, Hr0, Ho0, ⟨%fr', %hfr, Hfo⟩, Hsi0, Hsi1, Hso0, Hsg, ⟨%W1, %hW1, HO⟩⟩
  subst hr
  sl_exec
  sl_step
  isplitl [Ht]; · iexact Ht
  isplitl [Hx0]; · iexact Hx0
  isplitl [Hx1]; · iexact Hx1
  isplitl [Hi0]; · iexact Hi0
  isplitl [Hi1]; · iexact Hi1
  isplitl [Hr0]; · iexact Hr0
  isplitl [Hfo_src]; · iexists fr'; iexact Hfo_src
  isplitl [Ho0]; · iexact Ho0
  isplitl [Hfo_dst]; · rw [hfr]; iexact Hfo_dst
  isplitl [Hsi0]; · iexact Hsi0
  isplitl [Hsi1]; · iexact Hsi1
  isplitl [Hso0]; · iexact Hso0
  isplitl [Hfo]; · iexact Hfo
  isplitl [Hsg]; · iexact Hsg
  iexists _; isplitr
  swap; · iexact HO
  ipureintro; intro p hp
  rcases Finset.mem_insert.mp hp with hp | hp; · exact .inr (hp ▸ rfl)
  exact hW1 p hp

/-- The second gather kernel is the first one's text. -/
theorem second_eq : cc3_gather_kernel (F := F) i arg2 harg2 arg3 harg3 arg4 harg4 ai hai si ao hao so sg
    = cc1_gather_kernel (F := F) i arg2 harg2 arg3 harg3 arg4 harg4 ai hai si ao hao so sg := rfl

end Body

end Cert.Proof.Tile
-- ==== Proof.Launch.lean ====
module

public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs scopedBufs_V scopedSems0_V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The blocks, as equal parts of an axis -/

theorem xdiv : 64 ∣ S1x16384.size 1 := ⟨256, rfl⟩
theorem odiv : 64 ∣ S16384x128.size 0 := ⟨256, rfl⟩
abbrev xpart (p : Fin 64) : Rect S1x16384 := Rect.part (s := S1x16384) (a₀ := 1) xdiv p
abbrev opart (p : Fin 64) : Rect S16384x128 := Rect.part (s := S16384x128) (a₀ := 0) odiv p

/-- Tile `s` of SparseCore `c` among the 32, and its block `n` among the 64. -/
abbrev tIx (c : Fin 2) (s : Fin 16) : Fin 32 := finProdFinEquiv (c, s)
abbrev bIx (c : Fin 2) (s : Fin 16) (n : Fin 2) : Fin 64 := finProdFinEquiv (tIx c s, n)

theorem blk_eq (i : grid1.Coords) (n : Fin 2) : blk i n.val = (bIx (i 0) (i 1) n).val * 256 :=
  forall_coords (p := fun i => ∀ n : Fin 2, blk i n.val = (bIx (i 0) (i 1) n).val * 256) (by decide) i n

theorem xrect_eq (i : grid1.Coords) (n : Fin 2) :
    Rect.unit (s := S1x16384) ![0, blk i n.val] S1x256.size (inb_idx i n.val n.isLt) = xpart (bIx (i 0) (i 1) n) := by
  unfold xpart Rect.part Rect.block
  congr 1 <;> funext a
  · rw [blk_eq]
    match a with
    | 0 => simp [Shape.partIx, Shape.partSize]
    | 1 => simp [Shape.partIx, Shape.partSize]
  · match a with
    | 0 => simp [Shape.partSize]
    | 1 => simp [Shape.partSize]

theorem orect_eq (i : grid1.Coords) (n : Fin 2) :
    Rect.unit (s := S16384x128) ![blk i n.val, 0] S256x128.size (inb_out i n.val n.isLt) = opart (bIx (i 0) (i 1) n) := by
  unfold opart Rect.part Rect.block
  congr 1 <;> funext a
  · rw [blk_eq]
    match a with
    | 0 => simp [Shape.partIx, Shape.partSize]
    | 1 => simp [Shape.partIx, Shape.partSize]
  · match a with
    | 0 => simp [Shape.partSize]
    | 1 => simp [Shape.partSize]

theorem islot_eq (n : Fin 2) : Rect.unit (s := S2x1x256) ![n.val, 0, 0] S1x1x256.size (inb_is n.val n.isLt) = Rect.part (s := S2x1x256) (a₀ := 0) ⟨1, rfl⟩ n := by
  unfold Rect.part Rect.block
  congr 1 <;> funext a <;> match a with
    | 0 => simp [Shape.partIx, Shape.partSize]
    | 1 => simp [Shape.partIx, Shape.partSize]
    | 2 => simp [Shape.partIx, Shape.partSize]

theorem oslot_eq (n : Fin 2) : Rect.unit (s := S2x256x128) ![n.val, 0, 0] S1x256x128.size (inb_os n.val n.isLt) = Rect.part (s := S2x256x128) (a₀ := 0) ⟨1, rfl⟩ n := by
  unfold Rect.part Rect.block
  congr 1 <;> funext a <;> match a with
    | 0 => simp [Shape.partIx, Shape.partSize]
    | 1 => simp [Shape.partIx, Shape.partSize]
    | 2 => simp [Shape.partIx, Shape.partSize]

/-- A view is its two halves along an axis. -/
theorem halves {sp : Space} {s : Shape} {e : EltTy} (v : View sig .scVector sp s e) {a₀ : Fin s.rank} (h : 2 ∣ s.size a₀) :
    v.set = (Rect.part h (0 : Fin 2)).set.map v.emb ∪ (Rect.part h (1 : Fin 2)).set.map v.emb
      ∧ Disjoint ((Rect.part h (0 : Fin 2)).set.map v.emb) ((Rect.part h (1 : Fin 2)).set.map v.emb) := by
  constructor
  · rw [← Finset.map_union]
    have := Rect.biUnion_part h
    rw [show (Finset.univ : Finset (Fin 2)) = {0, 1} by decide, Finset.biUnion_insert, Finset.singleton_biUnion] at this
    rw [this]; rfl
  · exact (Finset.disjoint_map v.emb).mpr (Rect.part_disjoint h (by decide))

section Glue

variable (i : grid1.Coords) (d : Dev nD)
variable (arg2 : Memref sig .scVector .hbm S4096x128 .f32) (harg2 : arg2.IsWhole) (arg3 : Memref sig .scVector .hbm S1x16384 .i32) (harg3 : arg3.IsWhole)
  (arg4 : Memref sig .scVector .hbm S16384x128 .f32) (harg4 : arg4.IsWhole) (ai : Memref sig .scVector .vmem S2x1x256 .i32) (hai : ai.IsWhole) (si : DmaSems sig S2)
  (ao : Memref sig .scVector .vmem S2x256x128 .f32) (hao : ao.IsWhole) (so : DmaSems sig S2) (sg : DmaSems sig S_)

theorem set_idxB (n : Fin 2) : (idxB i arg3 n.val n.isLt).view.set = (xpart (bIx (i 0) (i 1) n)).set.map arg3.view.emb := by
  show (arg3.view.slice _).set = _
  rw [View.set_slice]; exact congrArg (fun r : Rect S1x16384 => r.set.map arg3.view.emb) (xrect_eq i n)

theorem set_outB (n : Fin 2) : (outB i arg4 n.val n.isLt).view.set = (opart (bIx (i 0) (i 1) n)).set.map arg4.view.emb := by
  show (arg4.view.slice _).set = _
  rw [View.set_slice]; exact congrArg (fun r : Rect S16384x128 => r.set.map arg4.view.emb) (orect_eq i n)

theorem set_iS (n : Fin 2) : (iS ai n.val n.isLt).view.set = (Rect.part (s := S2x1x256) (a₀ := 0) ⟨1, rfl⟩ n).set.map ai.view.emb := by
  show ((ai.view.slice _).reshape S1x256 _).set = _
  rw [View.set_reshape, View.set_slice]; exact congrArg (fun r : Rect S2x1x256 => r.set.map ai.view.emb) (islot_eq n)

theorem set_oS (n : Fin 2) : (oS ao n.val n.isLt).view.set = (Rect.part (s := S2x256x128) (a₀ := 0) ⟨1, rfl⟩ n).set.map ao.view.emb := by
  show ((ao.view.slice _).reshape S256x128 _).set = _
  rw [View.set_reshape, View.set_slice]; exact congrArg (fun r : Rect S2x256x128 => r.set.map ao.view.emb) (oslot_eq n)

theorem iS_split (f : Buf (Elt F) (ai.view.loc (thr i d))) :
    (Own i d ai f : sProp 𝕄) ⊢ iprop(Own i d (iS ai 0 lt0) f ∗ Own i d (iS ai 1 lt1) f) := by
  obtain ⟨hu, hd⟩ := halves ai.view (a₀ := 0) ⟨1, rfl⟩
  have e0 : (iS ai 0 lt0).view.set = _ := set_iS ai 0
  have e1 : (iS ai 1 lt1).view.set = _ := set_iS ai 1
  show (ai.view.loc (thr i d) ↦[ai.view.set]{fullShare} f : sProp 𝕄) ⊢ iprop((ai.view.loc (thr i d) ↦[(iS ai 0 lt0).view.set]{fullShare} f)
    ∗ (ai.view.loc (thr i d) ↦[(iS ai 1 lt1).view.set]{fullShare} f))
  rw [e0, e1, hu]
  exact (pointsTo_union hd).1

theorem oS_split (f : Buf (Elt F) (ao.view.loc (thr i d))) :
    (Own i d ao f : sProp 𝕄) ⊢ iprop(Own i d (oS ao 0 lt0) f ∗ Own i d (oS ao 1 lt1) f) := by
  obtain ⟨hu, hd⟩ := halves ao.view (a₀ := 0) ⟨1, rfl⟩
  have e0 : (oS ao 0 lt0).view.set = _ := set_oS ao 0
  have e1 : (oS ao 1 lt1).view.set = _ := set_oS ao 1
  show (ao.view.loc (thr i d) ↦[ao.view.set]{fullShare} f : sProp 𝕄) ⊢ iprop((ao.view.loc (thr i d) ↦[(oS ao 0 lt0).view.set]{fullShare} f)
    ∗ (ao.view.loc (thr i d) ↦[(oS ao 1 lt1).view.set]{fullShare} f))
  rw [e0, e1, hu]
  exact (pointsTo_union hd).1

theorem iS_join : (iprop((∃ f, Own i d (iS ai 0 lt0) f) ∗ ∃ f, Own i d (iS ai 1 lt1) f) : sProp 𝕄) ⊢ iprop(∃ f, Own i d ai f) := by
  obtain ⟨hu, hd⟩ := halves ai.view (a₀ := 0) ⟨1, rfl⟩
  have e0 : (iS ai 0 lt0).view.set = _ := set_iS ai 0
  have e1 : (iS ai 1 lt1).view.set = _ := set_iS ai 1
  iintro ⟨⟨%f, H0⟩, ⟨%g, H1⟩⟩
  iexists ((iS ai 1 lt1).view.set).piecewise g f
  ihave H := (pointsTo_join (ℓ := ai.view.loc (thr i d)) (q := fullShare) (I := (iS ai 0 lt0).view.set) (J := (iS ai 1 lt1).view.set) (f := f) (g := g)
    (by rw [e0, e1]; exact hd)) $$ [H0 H1]
  · isplitl [H0] <;> iassumption
  iapply (Entails.of_eq (show (ai.view.loc (thr i d) ↦[(iS ai 0 lt0).view.set ∪ (iS ai 1 lt1).view.set]{fullShare} _ : sProp 𝕄) = Own i d ai _ by
    show _ = (ai.view.loc (thr i d) ↦[ai.view.set]{fullShare} _ : sProp 𝕄); rw [e0, e1, ← hu])) $$ H

theorem oS_join : (iprop((∃ f, Own i d (oS ao 0 lt0) f) ∗ ∃ f, Own i d (oS ao 1 lt1) f) : sProp 𝕄) ⊢ iprop(∃ f, Own i d ao f) := by
  obtain ⟨hu, hd⟩ := halves ao.view (a₀ := 0) ⟨1, rfl⟩
  have e0 : (oS ao 0 lt0).view.set = _ := set_oS ao 0
  have e1 : (oS ao 1 lt1).view.set = _ := set_oS ao 1
  iintro ⟨⟨%f, H0⟩, ⟨%g, H1⟩⟩
  iexists ((oS ao 1 lt1).view.set).piecewise g f
  ihave H := (pointsTo_join (ℓ := ao.view.loc (thr i d)) (q := fullShare) (I := (oS ao 0 lt0).view.set) (J := (oS ao 1 lt1).view.set) (f := f) (g := g)
    (by rw [e0, e1]; exact hd)) $$ [H0 H1]
  · isplitl [H0] <;> iassumption
  iapply (Entails.of_eq (show (ao.view.loc (thr i d) ↦[(oS ao 0 lt0).view.set ∪ (oS ao 1 lt1).view.set]{fullShare} _ : sProp 𝕄) = Own i d ao _ by
    show _ = (ao.view.loc (thr i d) ↦[ao.view.set]{fullShare} _ : sProp 𝕄); rw [e0, e1, ← hu])) $$ H

variable [FloatOps F]

/-- Row `w[0, r]` of a table, for every `r`: the whole of what the 32 tiles write. -/
def gatAll (ft : S4096x128.Idx → Elt F .f32) (w : S1x16384.Idx → Elt F .i32) : S16384x128.Idx → Elt F .f32 := fun p =>
  ft (ix2 (n0 := 4096) (n1 := 128) ⟨(w (ix2 (n0 := 1) (n1 := 16384) 0 (p 0))).toNat % 4096, Nat.mod_lt _ (by decide)⟩ (p 1))

/-- On a tile's block what the tile writes is that whole. -/
theorem outVal_eq (n : Fin 2) (ft : Buf (Elt F) (arg2.view.loc (thr i d))) (fx : Buf (Elt F) (arg3.view.loc (thr i d))) (fo : Buf (Elt F) (arg4.view.loc (thr i d)))
    (j : arg4.view.ty.shape.Idx) (hj : j ∈ (outB i arg4 n.val n.isLt).view.set) :
    outVal i d arg2 arg3 arg4 n.val n.isLt ft fx fo j
      = arg4.view.write (Elt F) fo (gatAll (arg2.view.read (Elt F) ft) (arg3.view.read (Elt F) fx)) Finset.univ j := by
  obtain ⟨x, -, rfl⟩ := Finset.mem_map.mp hj
  refine (View.write_emb_of_mem (v := (outB i arg4 n.val n.isLt).view) _ _ (Finset.mem_univ x)).trans ?_
  refine Eq.trans ?_ (View.write_emb_of_mem (v := arg4.view) fo _ (Finset.mem_univ ((Rect.unit (s := S16384x128) ![blk i n.val, 0] S256x128.size (inb_out i n.val n.isLt)).emb x))).symm
  refine congrArg (cast _) ?_
  unfold gat gatAll
  have e0 : (idxB i arg3 n.val n.isLt).view.read (Elt F) fx (ix2 (n0 := 1) (n1 := 256) 0 (x 0))
      = arg3.view.read (Elt F) fx (ix2 (n0 := 1) (n1 := 16384) 0 ((Rect.unit (s := S16384x128) ![blk i n.val, 0] S256x128.size (inb_out i n.val n.isLt)).emb x 0)) := by
    show arg3.view.read (Elt F) fx ((Rect.unit (s := S1x16384) ![0, blk i n.val] S1x256.size (inb_idx i n.val n.isLt)).emb _) = _
    congr 1
    funext a; match a with
    | 0 => rfl
    | 1 => rfl
  congr 1
  funext a; match a with
  | 0 => exact Fin.ext (congrArg (fun z : BitVec 32 => z.toNat % 4096) e0)
  | 1 => exact Fin.ext (by simp [Rect.emb, Rect.unit])

/-- The tile's run from what its thread is handed: its share of the table, its blocks of the list and of the output, its own scratch and semaphores. -/
theorem tile_glue (hF : (K (F := F)).Facts) (O : CellTallies nD τ sig (HIx 2)) (W : Waits sig (HIx 2)) (hO : ∀ g, O g none = 0)
    (q : PosShare TreeShare) (ft : Buf (Elt F) (arg2.view.loc (thr i d)))
    (fx : Buf (Elt F) (arg3.view.loc (thr i d))) (fo fo' : Buf (Elt F) (arg4.view.loc (thr i d)))
    (hin : ∀ n hn x, ((idxB i arg3 n hn).view.read (Elt F) fx x).toNat < 4096)
    (hfo : arg4.view.write (Elt F) fo (gatAll (arg2.view.read (Elt F) ft) (arg3.view.read (Elt F) fx)) Finset.univ = fo')
    (RB RS : sProp 𝕄)
    (hB : ownBufs (thr i d) = iprop((∃ f, Own i d ai f) ∗ (∃ f, Own i d ao f) ∗ RB))
    (hS : ownSems0 (thr i d) = iprop(semVal (thr i d, .dma (semN si 0 lt0)) 0 ∗ semVal (thr i d, .dma (semN si 1 lt1)) 0
        ∗ semVal (thr i d, .dma (semN so 0 lt0)) 0 ∗ semVal (thr i d, .dma (semN so 1 lt1)) 0 ∗ semVal (thr i d, .dma sg.sem) 0 ∗ RS)) :
    iprop(levAts (K (F := F)).L (K (F := F)).lev ∗ emp
        ∗ ((arg2.view.loc (thr i d) ↦[arg2.view.set]{q} ft)
          ∗ Own i d (idxB i arg3 0 lt0) fx ∗ Own i d (idxB i arg3 1 lt1) fx ∗ Own i d (outB i arg4 0 lt0) fo ∗ Own i d (outB i arg4 1 lt1) fo)
        ∗ scopedBufs (thr i d) ∗ scopedSems0 (thr i d) ∗ owes (thr i d) O W)
    ⊢ wp frame (wpE (defs₀ (F := F)) 𝒱₀ (thr i d) none) Set.univ
        (cc1_gather_kernel i arg2 harg2 arg3 harg3 arg4 harg4 ai hai si ao hao so sg)
        fun _ => (iprop(((arg2.view.loc (thr i d) ↦[arg2.view.set]{q} ft)
            ∗ Own i d (idxB i arg3 0 lt0) fx ∗ Own i d (idxB i arg3 1 lt1) fx ∗ Own i d (outB i arg4 0 lt0) fo' ∗ Own i d (outB i arg4 1 lt1) fo')
          ∗ scopedBufs (thr i d) ∗ scopedSems0 (thr i d)
          ∗ ∃ W', ⌜∀ p ∈ W', p ∈ W ∨ p.2 = none⌝ ∗ owes (thr i d) O W') : sProp 𝕄) := by
  rw [(K (F := F)).scopedBufs_V hF d ((i 0).castLE hcore1) ((i 1).castLE hsub1), scopedSems0_V (Val := Elt F) d ((i 0).castLE hcore1) ((i 1).castLE hsub1), hS, hB]
  have hq (n : Fin 2) : (Own i d (outB i arg4 n.val n.isLt) (outVal i d arg2 arg3 arg4 n.val n.isLt ft fx fo) : sProp 𝕄) = Own i d (outB i arg4 n.val n.isLt) fo' :=
    pointsTo_congr fun j hj => (outVal_eq i d arg2 arg3 arg4 n ft fx fo j hj).trans (congrFun hfo j)
  iintro ⟨#Hlv, -, ⟨Ht, Hx0, Hx1, Ho0, Ho1⟩, ⟨⟨%fi, Hi⟩, ⟨%fr, Hr⟩, HRB⟩, ⟨Hs0, Hs1, Hs2, Hs3, Hs4, HRS⟩, HO⟩
  ihave Hmw := (show levAts (K (F := F)).L (K (F := F)).lev ⊢ Transfers.MayWaits (thr i d) (default : HIx 2) O from
    (K (F := F)).mayWaits_none (thr := thr i d) hO) $$ Hlv
  ihave Hi' := (iS_split i d ai fi) $$ Hi
  icases Hi' with ⟨Hi0, Hi1⟩
  ihave Hr' := (oS_split i d ao fr) $$ Hr
  icases Hr' with ⟨Hr0, Hr1⟩
  iapply (exec_cut_last frame (wpE (defs₀ (F := F)) 𝒱₀ (thr i d) none) Set.univ
    (tile_run i d arg2 harg2 arg3 harg3 arg4 harg4 ai hai si ao hao so sg O W q ft fx fo fi fr hin)) $$ [Hmw Ht Hx0 Hx1 Hi0 Hi1 Hr0 Hr1 Ho0 Ho1 Hs0 Hs1 Hs2 Hs3 Hs4 HO]
  · isplitl [Hmw]; · iexact Hmw
    isplitl [Ht]; · iexact Ht
    isplitl [Hx0]; · iexact Hx0
    isplitl [Hx1]; · iexact Hx1
    isplitl [Hi0]; · iexact Hi0
    isplitl [Hi1]; · iexact Hi1
    isplitl [Hr0]; · iexact Hr0
    isplitl [Hr1]; · iexact Hr1
    isplitl [Ho0]; · iexact Ho0
    isplitl [Ho1]; · iexact Ho1
    isplitl [Hs0]; · iexact Hs0
    isplitl [Hs1]; · iexact Hs1
    isplitl [Hs2]; · iexact Hs2
    isplitl [Hs3]; · iexact Hs3
    isplitl [Hs4]; · iexact Hs4
    iexact HO
  iintro %r ⟨Ht, Hx0, Hx1, Hi0, Hi1, Hr0, Hr1, Ho0, Ho1, Hs0, Hs1, Hs2, Hs3, Hs4, HO⟩
  isplitl [Ht Hx0 Hx1 Ho0 Ho1]
  · isplitl [Ht]; · iexact Ht
    isplitl [Hx0]; · iexact Hx0
    isplitl [Hx1]; · iexact Hx1
    isplitl [Ho0]; · iapply (Entails.of_eq (hq 0)); iexact Ho0
    iapply (Entails.of_eq (hq 1)); iexact Ho1
  isplitl [Hi0 Hi1 Hr0 Hr1 HRB]
  · isplitl [Hi0 Hi1]
    · iapply (iS_join i d ai); isplitl [Hi0] <;> iassumption
    isplitl [Hr0 Hr1]
    · iapply (oS_join i d ao); isplitl [Hr0] <;> iassumption
    iexact HRB
  isplitl [Hs0 Hs1 Hs2 Hs3 Hs4 HRS]
  · isplitl [Hs0]; · iexact Hs0
    isplitl [Hs1]; · iexact Hs1
    isplitl [Hs2]; · iexact Hs2
    isplitl [Hs3]; · iexact Hs3
    isplitl [Hs4]; · iexact Hs4
    iexact HRS
  iexact HO

end Glue

end Cert.Proof.Tile

end
-- ==== Proof.Calls.lean ====
module

public import proofs.«01_k».proof.Proof.Launch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs scopedBufs_V scopedSems0_V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem facts : (K (F := F)).Facts :=
  ⟨show sc_start ≠ sc_taskDone by decide,
   show (SemLoc.reg sc_start : SemLoc sig).isScoped .scScalar = false by decide,
   show (SemLoc.reg sc_taskDone : SemLoc sig).isScoped .scScalar = false by decide,
   show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide,
   fun _ => rfl⟩

theorem nCore_eq (q : Fin 2) : (K (F := F)).nCore q = 2 := by match q with | 0 => rfl | 1 => rfl
theorem nSub_eq (q : Fin 2) : (K (F := F)).nSub q = 16 := by match q with | 0 => rfl | 1 => rfl

theorem sep_assoc_eq (A B C : sProp 𝕄) : (iprop((A ∗ B) ∗ C) : sProp 𝕄) = iprop(A ∗ B ∗ C) :=
  BI.Entails.antisymm BI.sep_assoc BI.sep_assoc'

/-! ## What a call's operands hold, and a tile's part of them -/

/-- What the table, the list and the output hold as each of the two calls begins; the list's words number rows of the table. -/
structure Vals (F : FTy → Type) where
  t : Fin 2 → Dev nD → S4096x128.Idx → Elt F .f32
  x : Fin 2 → Dev nD → S1x16384.Idx → Elt F .i32
  o : Fin 2 → Dev nD → S16384x128.Idx → Elt F .f32
  hx : ∀ q d j, BitVec.toNat (x q d j) < 4096

/-- A tile's part: a share of the table, two blocks of the list, two of the output. -/
abbrev part (ℓt ℓx ℓo : Loc nD τ sig) (Kx : Fin 64 → Finset (Idx ℓx)) (Ko : Fin 64 → Finset (Idx ℓo)) (ft : Buf (Elt F) ℓt) (fx : Buf (Elt F) ℓx) (fo : Buf (Elt F) ℓo)
    (c : Fin 2) (s : Fin 16) : sProp 𝕄 :=
  iprop((ℓt ↦{Transfers.shareTok fullShare 32 (tIx c s)} ft) ∗ (ℓx ↦[Kx (bIx c s 0)]{fullShare} fx) ∗ (ℓx ↦[Kx (bIx c s 1)]{fullShare} fx)
    ∗ (ℓo ↦[Ko (bIx c s 0)]{fullShare} fo) ∗ (ℓo ↦[Ko (bIx c s 1)]{fullShare} fo))

/-- The three operands whole are what stays behind of the table and the 32 tiles' parts. -/
theorem parts_eq (ℓt ℓx ℓo : Loc nD τ sig) (Kx : Fin 64 → Finset (Idx ℓx)) (Ko : Fin 64 → Finset (Idx ℓo)) (ft : Buf (Elt F) ℓt) (fx : Buf (Elt F) ℓx) (fo : Buf (Elt F) ℓo)
    (dx : ∀ i ∈ (Finset.univ : Finset (Fin 64)), ∀ j ∈ (Finset.univ : Finset (Fin 64)), i ≠ j → Disjoint (Kx i) (Kx j)) (ux : Finset.univ.biUnion Kx = Finset.univ)
    (do' : ∀ i ∈ (Finset.univ : Finset (Fin 64)), ∀ j ∈ (Finset.univ : Finset (Fin 64)), i ≠ j → Disjoint (Ko i) (Ko j)) (uo : Finset.univ.biUnion Ko = Finset.univ) :
    (iprop((ℓt ↦{fullShare} ft) ∗ (ℓx ↦{fullShare} fx) ∗ (ℓo ↦{fullShare} fo)) : sProp 𝕄)
      = iprop((ℓt ↦{Transfers.shareDrop fullShare 32} ft) ∗ bigSep Finset.univ fun c : Fin 2 => bigSep Finset.univ fun s : Fin 16 => part ℓt ℓx ℓo Kx Ko ft fx fo c s) := by
  have et : (ℓt ↦{fullShare} ft : sProp 𝕄) = iprop((ℓt ↦{Transfers.shareDrop fullShare 32} ft)
      ∗ bigSep Finset.univ fun c : Fin 2 => bigSep Finset.univ fun s : Fin 16 => ℓt ↦{Transfers.shareTok fullShare 32 (tIx c s)} ft) := by
    rw [BI.Entails.antisymm (Transfers.pointsTo_toks fullShare 32).1 (Transfers.pointsTo_toks fullShare 32).2,
      bigSep_univ_equiv (finProdFinEquiv : Fin 2 × Fin 16 ≃ Fin 32), bigSep_univ_prod]
  have blocks {ℓ : Loc nD τ sig} (Kb : Fin 64 → Finset (Idx ℓ)) (f : Buf (Elt F) ℓ)
      (dj : ∀ i ∈ (Finset.univ : Finset (Fin 64)), ∀ j ∈ (Finset.univ : Finset (Fin 64)), i ≠ j → Disjoint (Kb i) (Kb j)) (un : Finset.univ.biUnion Kb = Finset.univ) :
      (ℓ ↦{fullShare} f : sProp 𝕄) = bigSep Finset.univ fun c : Fin 2 => bigSep Finset.univ fun s : Fin 16 =>
        iprop((ℓ ↦[Kb (bIx c s 0)]{fullShare} f) ∗ (ℓ ↦[Kb (bIx c s 1)]{fullShare} f)) := by
    rw [show (ℓ ↦{fullShare} f : sProp 𝕄) = bigSep Finset.univ fun p : Fin 64 => ℓ ↦[Kb p]{fullShare} f by
        rw [← pointsTo_biUnion Finset.univ (ℓ := ℓ) Kb dj, un],
      bigSep_univ_equiv (finProdFinEquiv : Fin 32 × Fin 2 ≃ Fin 64), bigSep_univ_prod, bigSep_univ_equiv (finProdFinEquiv : Fin 2 × Fin 16 ≃ Fin 32), bigSep_univ_prod]
    refine bigSep_congr fun c _ => bigSep_congr fun s _ => bigSep_univ_two _
  rw [et, blocks Kx fx dx ux, blocks Ko fo do' uo]
  unfold part
  simp only [bigSep_sep', sep_assoc_eq]

/-! ## The handshakes' payloads -/

variable (Vl : Vals F)

/-- A TensorCore's buffer. -/
abbrev tL (d : Dev nD) (r : Ref sig .tc) : Loc nD τ sig := (SparseCore.T d : Thread nD τ).loc r

/-- The part of tile `s` of SparseCore `c` in call `q`, the output holding `fo`. -/
def Go (q : Fin 2) (d : Dev nD) (fo : S16384x128.Idx → Elt F .f32) (c : Fin 2) (s : Fin 16) : sProp 𝕄 :=
  match q with
  | 0 => part (tL d main_v14) (tL d main_v13) (tL d main_v15) (fun p => (xpart p).set) (fun p => (opart p).set) (Vl.t 0 d) (Vl.x 0 d) fo c s
  | 1 => part (tL d main_v24) (tL d main_v23) (tL d main_v25) (fun p => (xpart p).set) (fun p => (opart p).set) (Vl.t 1 d) (Vl.x 1 d) fo c s

instance Go_storable (q : Fin 2) (d : Dev nD) (fo : S16384x128.Idx → Elt F .f32) (c : Fin 2) (s : Fin 16) :
    BI.Storable (upEmb : UEmb _ 𝕄) (Go Vl q d fo c s) := by
  match q with
  | 0 => unfold Go; infer_instance
  | 1 => unfold Go; infer_instance

/-- What the output of call `q` holds at its end. -/
def res (q : Fin 2) (d : Dev nD) : S16384x128.Idx → Elt F .f32 := gatAll (Vl.t q d) (Vl.x q d)

def P : (K (F := F)).Pay (nD := nD) (Val := Elt F) (Name := ℕ) (U := UU) where
  st q d c := bigSep Finset.univ fun s : Fin 16 => Go Vl q d (Vl.o q d) (Fin.cast (nCore_eq q) c) s
  dn q d c := bigSep Finset.univ fun s : Fin 16 => Go Vl q d (res Vl q d) (Fin.cast (nCore_eq q) c) s
  go q d c i := Go Vl q d (Vl.o q d) (Fin.cast (nCore_eq q) c) (Fin.cast (nSub_eq q) i)
  td q d c i := Go Vl q d (res Vl q d) (Fin.cast (nCore_eq q) c) (Fin.cast (nSub_eq q) i)
  x := fun _ _ => iprop(emp)

instance P_storable : (P Vl).IsStorable where
  st _ _ _ := by unfold P; infer_instance
  dn _ _ _ := by unfold P; infer_instance
  go _ _ _ _ := by unfold P; infer_instance
  td _ _ _ _ := by unfold P; infer_instance

theorem vecSplit (q : Fin 2) : (K (F := F)).VecSplit' (P Vl) q := by
  intro d c
  have e (fo : S16384x128.Idx → Elt F .f32) : (bigSep Finset.univ fun i : Fin ((K (F := F)).nSub q) => Go Vl q d fo (Fin.cast (nCore_eq q) c) (Fin.cast (nSub_eq q) i))
      = bigSep Finset.univ fun s : Fin 16 => Go Vl q d fo (Fin.cast (nCore_eq q) c) s :=
    (bigSep_univ_equiv (finCongr (nSub_eq (F := F) q)) _).symm
  show (bigSep Finset.univ fun s : Fin 16 => Go Vl q d (Vl.o q d) (Fin.cast (nCore_eq q) c) s) ⊢ |={Set.univ}=> iprop(
    (bigSep Finset.univ fun i : Fin ((K (F := F)).nSub q) => Go Vl q d (Vl.o q d) (Fin.cast (nCore_eq q) c) (Fin.cast (nSub_eq q) i))
    ∗ ((bigSep Finset.univ fun i : Fin ((K (F := F)).nSub q) => Go Vl q d (res Vl q d) (Fin.cast (nCore_eq q) c) (Fin.cast (nSub_eq q) i))
      -∗ bigSep Finset.univ fun s : Fin 16 => Go Vl q d (res Vl q d) (Fin.cast (nCore_eq q) c) s))
  rw [e, e]
  iintro H; imodintro
  isplitl [H]; · iexact H
  iintro H; iexact H

/-- What the TensorCore hands out for call `q` is the three operands, a remainder of the table's share kept. -/
theorem call_eq (q : Fin 2) (d : Dev nD) (fo : S16384x128.Idx → Elt F .f32) :
    (bigSep Finset.univ fun c : Fin ((K (F := F)).nCore q) => bigSep Finset.univ fun s : Fin 16 => Go Vl q d fo (Fin.cast (nCore_eq q) c) s)
      = bigSep Finset.univ fun c : Fin 2 => bigSep Finset.univ fun s : Fin 16 => Go Vl q d fo c s :=
  (bigSep_univ_equiv (finCongr (nCore_eq (F := F) q)) (fun c : Fin 2 => bigSep Finset.univ fun s : Fin 16 => Go Vl q d fo c s)).symm

theorem call0_eq (d : Dev nD) (fo : S16384x128.Idx → Elt F .f32) :
    (iprop((tL d main_v14 ↦{fullShare} Vl.t 0 d) ∗ (tL d main_v13 ↦{fullShare} Vl.x 0 d) ∗ (tL d main_v15 ↦{fullShare} fo)) : sProp 𝕄)
      = iprop((tL d main_v14 ↦{Transfers.shareDrop fullShare 32} Vl.t 0 d)
        ∗ bigSep Finset.univ fun c : Fin ((K (F := F)).nCore 0) => bigSep Finset.univ fun s : Fin 16 => Go Vl 0 d fo (Fin.cast (nCore_eq 0) c) s) := by
  rw [call_eq]
  exact parts_eq (tL d main_v14) (tL d main_v13) (tL d main_v15) (fun p => (xpart p).set) (fun p => (opart p).set) (Vl.t 0 d) (Vl.x 0 d) fo
    (fun i _ j _ h => Rect.part_disjoint xdiv h) (Rect.biUnion_part xdiv) (fun i _ j _ h => Rect.part_disjoint odiv h) (Rect.biUnion_part odiv)

theorem call1_eq (d : Dev nD) (fo : S16384x128.Idx → Elt F .f32) :
    (iprop((tL d main_v24 ↦{fullShare} Vl.t 1 d) ∗ (tL d main_v23 ↦{fullShare} Vl.x 1 d) ∗ (tL d main_v25 ↦{fullShare} fo)) : sProp 𝕄)
      = iprop((tL d main_v24 ↦{Transfers.shareDrop fullShare 32} Vl.t 1 d)
        ∗ bigSep Finset.univ fun c : Fin ((K (F := F)).nCore 1) => bigSep Finset.univ fun s : Fin 16 => Go Vl 1 d fo (Fin.cast (nCore_eq 1) c) s) := by
  rw [call_eq]
  exact parts_eq (tL d main_v24) (tL d main_v23) (tL d main_v25) (fun p => (xpart p).set) (fun p => (opart p).set) (Vl.t 1 d) (Vl.x 1 d) fo
    (fun i _ j _ h => Rect.part_disjoint xdiv h) (Rect.biUnion_part xdiv) (fun i _ j _ h => Rect.part_disjoint odiv h) (Rect.biUnion_part odiv)

/-! ## A tile's own scratch and semaphores -/

/-- Two of a subcore's own buffers, and the rest. -/
theorem ownBufs_two (d : Dev nD) (c : Fin τ.nSC) (j : Fin τ.nSub) (r r' : Ref sig .scVector) (ne : r' ≠ r)
    (h : ((Proc.scVector c j).devRef r).owner = .proc (Proc.scVector c j)) (h' : ((Proc.scVector c j).devRef r').owner = .proc (Proc.scVector c j)) :
    (ownBufs (V d c j) : sProp 𝕄)
      = iprop((∃ f, (Memref.whole r).view.loc (V d c j) ↦[(Memref.whole r).view.set]{fullShare} f)
          ∗ (∃ f, (Memref.whole r').view.loc (V d c j) ↦[(Memref.whole r').view.set]{fullShare} f)
          ∗ bigSep (((ownRefs (τ := τ) (.scVector c j)).erase ((Proc.scVector c j).devRef r)).erase ((Proc.scVector c j).devRef r'))
              fun b => iprop(∃ f, ((d, b) : Loc nD τ sig) ↦{fullShare} f)) := by
  have hs (b : Ref sig .scVector) : (Memref.whole b).view.set = Finset.univ := View.set_whole _
  rw [hs, hs]
  unfold SparseCore.Cfg.ownBufs
  refine (SparseCore.bigSep_erase' (SparseCore.Cfg.mem_ownRefs_of_owner (p := Proc.scVector c j) (b := (Proc.scVector c j).devRef r) h)).trans ?_
  rw [SparseCore.bigSep_erase' (Finset.mem_erase.mpr ⟨fun e => absurd (Proc.devRef_injective _ e) ne,
    SparseCore.Cfg.mem_ownRefs_of_owner (p := Proc.scVector c j) (b := (Proc.scVector c j).devRef r') h'⟩)]

/-- Five of a subcore's own semaphores, and the rest. -/
theorem ownSems0_five (d : Dev nD) (c : Fin τ.nSC) (j : Fin τ.nSub) (s : Fin 5 → DmaSem sig) (inj : Function.Injective s)
    (h : ∀ k, (SemLoc.dma (s k) : SemLoc sig).isScoped .scVector = true) :
    (ownSems0 (V d c j) : sProp 𝕄)
      = iprop(semVal (V d c j, .dma (s 0)) 0 ∗ semVal (V d c j, .dma (s 1)) 0 ∗ semVal (V d c j, .dma (s 2)) 0 ∗ semVal (V d c j, .dma (s 3)) 0 ∗ semVal (V d c j, .dma (s 4)) 0
          ∗ bigSep ((ownCells (V d c j)) \ (Finset.univ.image fun k : Fin 5 => ((V d c j, .dma (s k)) : GSem nD τ sig))) fun g => semVal g 0) := by
  unfold SparseCore.Cfg.ownSems0
  have hi : Function.Injective fun k : Fin 5 => ((V d c j, .dma (s k)) : GSem nD τ sig) := fun a b e => inj (SemLoc.dma.inj (Prod.ext_iff.mp e).2)
  rw [SparseCore.bigSep_sdiff_split' (t := Finset.univ.image fun k : Fin 5 => ((V d c j, .dma (s k)) : GSem nD τ sig))
    (fun g hg => by obtain ⟨k, -, rfl⟩ := Finset.mem_image.mp hg; exact mem_ownCells.mpr ⟨rfl, h k⟩),
    SparseCore.bigSep_image_of_injOn hi.injOn]
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
  simp only [sep_assoc_eq]

end Cert.Proof.Tile

end
-- ==== Proof.Tasks.lean ====
module

public import proofs.«01_k».proof.Proof.Calls

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs scopedBufs_V scopedSems0_V)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable [FloatOps F] (Vl : Vals F)

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

abbrev sems1 : Fin 5 → DmaSem sig := ![semN cc1_scoped1 0 lt0, semN cc1_scoped1 1 lt1, semN cc1_scoped3 0 lt0, semN cc1_scoped3 1 lt1, cc1_scoped4.sem]
abbrev sems3 : Fin 5 → DmaSem sig := ![semN cc3_scoped1 0 lt0, semN cc3_scoped1 1 lt1, semN cc3_scoped3 0 lt0, semN cc3_scoped3 1 lt1, cc3_scoped4.sem]

theorem sems1_inj : Function.Injective sems1 := by decide
theorem sems3_inj : Function.Injective sems3 := by decide
theorem sems1_scoped : ∀ k, (SemLoc.dma (sems1 k) : SemLoc sig).isScoped .scVector = true := by decide
theorem sems3_scoped : ∀ k, (SemLoc.dma (sems3 k) : SemLoc sig).isScoped .scVector = true := by decide

theorem task0 (i : grid1.Coords) (d : Dev nD) (O : CellTallies nD τ sig (HIx 2)) (W : Waits sig (HIx 2)) (hO : ∀ g, O g none = 0) :
    iprop(levAts (K (F := F)).L (K (F := F)).lev ∗ emp ∗ Go Vl 0 d (Vl.o 0 d) (i 0) (i 1) ∗ scopedBufs (thr i d) ∗ scopedSems0 (thr i d) ∗ owes (thr i d) O W)
    ⊢ wp frame (wpE (defs₀ (F := F)) 𝒱₀ (thr i d) none) Set.univ
        (cc1_gather_kernel i (Memref.whole main_v14_scv) (Memref.isWhole_whole _) (Memref.whole main_v13_scv) (Memref.isWhole_whole _)
          (Memref.whole main_v15_scv) (Memref.isWhole_whole _) (Memref.whole cc1_scoped0) (Memref.isWhole_whole _) cc1_scoped1
          (Memref.whole cc1_scoped2) (Memref.isWhole_whole _) cc1_scoped3 cc1_scoped4)
        fun _ => (iprop(Go Vl 0 d (res Vl 0 d) (i 0) (i 1) ∗ scopedBufs (thr i d) ∗ scopedSems0 (thr i d)
          ∗ ∃ W', ⌜∀ p ∈ W', p ∈ W ∨ p.2 = none⌝ ∗ owes (thr i d) O W') : sProp 𝕄) := by
  have hx (n : Fin 2) : (idxB i (Memref.whole main_v13_scv) n.val n.isLt).view.set = (xpart (bIx (i 0) (i 1) n)).set :=
    (set_idxB i (Memref.whole main_v13_scv) n).trans Finset.map_refl
  have ho (n : Fin 2) : (outB i (Memref.whole main_v15_scv) n.val n.isLt).view.set = (opart (bIx (i 0) (i 1) n)).set :=
    (set_outB i (Memref.whole main_v15_scv) n).trans Finset.map_refl
  have eg (fo : S16384x128.Idx → Elt F .f32) : (Go Vl 0 d fo (i 0) (i 1) : sProp 𝕄)
      = iprop(((Memref.whole main_v14_scv).view.loc (thr i d) ↦[(Memref.whole main_v14_scv).view.set]{Transfers.shareTok fullShare 32 (tIx (i 0) (i 1))} Vl.t 0 d)
        ∗ Own i d (idxB i (Memref.whole main_v13_scv) 0 lt0) (Vl.x 0 d) ∗ Own i d (idxB i (Memref.whole main_v13_scv) 1 lt1) (Vl.x 0 d)
        ∗ Own i d (outB i (Memref.whole main_v15_scv) 0 lt0) fo ∗ Own i d (outB i (Memref.whole main_v15_scv) 1 lt1) fo) := by
    have h0 := hx 0; have h1 := hx 1; have g0 := ho 0; have g1 := ho 1
    unfold Own
    rw [show (Memref.whole main_v14_scv).view.set = Finset.univ from View.set_whole _,
      show (idxB i (Memref.whole main_v13_scv) 0 lt0).view.set = _ from h0, show (idxB i (Memref.whole main_v13_scv) 1 lt1).view.set = _ from h1,
      show (outB i (Memref.whole main_v15_scv) 0 lt0).view.set = _ from g0, show (outB i (Memref.whole main_v15_scv) 1 lt1).view.set = _ from g1]
    rfl
  rw [eg, eg]
  exact tile_glue i d (Memref.whole main_v14_scv) (Memref.isWhole_whole _) (Memref.whole main_v13_scv) (Memref.isWhole_whole _)
    (Memref.whole main_v15_scv) (Memref.isWhole_whole _) (Memref.whole cc1_scoped0) (Memref.isWhole_whole _) cc1_scoped1
    (Memref.whole cc1_scoped2) (Memref.isWhole_whole _) cc1_scoped3 cc1_scoped4 facts O W hO _ (Vl.t 0 d) (Vl.x 0 d) (Vl.o 0 d) (res Vl 0 d)
    (fun n hn x => Vl.hx 0 d _) (View.write_whole_univ _ _ _) _ _
    (ownBufs_two d _ _ cc1_scoped0 cc1_scoped2 (by decide) rfl rfl) (ownSems0_five d _ _ sems1 sems1_inj sems1_scoped)

theorem task1 (i : grid1.Coords) (d : Dev nD) (O : CellTallies nD τ sig (HIx 2)) (W : Waits sig (HIx 2)) (hO : ∀ g, O g none = 0) :
    iprop(levAts (K (F := F)).L (K (F := F)).lev ∗ emp ∗ Go Vl 1 d (Vl.o 1 d) (i 0) (i 1) ∗ scopedBufs (thr i d) ∗ scopedSems0 (thr i d) ∗ owes (thr i d) O W)
    ⊢ wp frame (wpE (defs₀ (F := F)) 𝒱₀ (thr i d) none) Set.univ
        (cc3_gather_kernel i (Memref.whole main_v24_scv) (Memref.isWhole_whole _) (Memref.whole main_v23_scv) (Memref.isWhole_whole _)
          (Memref.whole main_v25_scv) (Memref.isWhole_whole _) (Memref.whole cc3_scoped0) (Memref.isWhole_whole _) cc3_scoped1
          (Memref.whole cc3_scoped2) (Memref.isWhole_whole _) cc3_scoped3 cc3_scoped4)
        fun _ => (iprop(Go Vl 1 d (res Vl 1 d) (i 0) (i 1) ∗ scopedBufs (thr i d) ∗ scopedSems0 (thr i d)
          ∗ ∃ W', ⌜∀ p ∈ W', p ∈ W ∨ p.2 = none⌝ ∗ owes (thr i d) O W') : sProp 𝕄) := by
  have hx (n : Fin 2) : (idxB i (Memref.whole main_v23_scv) n.val n.isLt).view.set = (xpart (bIx (i 0) (i 1) n)).set :=
    (set_idxB i (Memref.whole main_v23_scv) n).trans Finset.map_refl
  have ho (n : Fin 2) : (outB i (Memref.whole main_v25_scv) n.val n.isLt).view.set = (opart (bIx (i 0) (i 1) n)).set :=
    (set_outB i (Memref.whole main_v25_scv) n).trans Finset.map_refl
  have eg (fo : S16384x128.Idx → Elt F .f32) : (Go Vl 1 d fo (i 0) (i 1) : sProp 𝕄)
      = iprop(((Memref.whole main_v24_scv).view.loc (thr i d) ↦[(Memref.whole main_v24_scv).view.set]{Transfers.shareTok fullShare 32 (tIx (i 0) (i 1))} Vl.t 1 d)
        ∗ Own i d (idxB i (Memref.whole main_v23_scv) 0 lt0) (Vl.x 1 d) ∗ Own i d (idxB i (Memref.whole main_v23_scv) 1 lt1) (Vl.x 1 d)
        ∗ Own i d (outB i (Memref.whole main_v25_scv) 0 lt0) fo ∗ Own i d (outB i (Memref.whole main_v25_scv) 1 lt1) fo) := by
    have h0 := hx 0; have h1 := hx 1; have g0 := ho 0; have g1 := ho 1
    unfold Own
    rw [show (Memref.whole main_v24_scv).view.set = Finset.univ from View.set_whole _,
      show (idxB i (Memref.whole main_v23_scv) 0 lt0).view.set = _ from h0, show (idxB i (Memref.whole main_v23_scv) 1 lt1).view.set = _ from h1,
      show (outB i (Memref.whole main_v25_scv) 0 lt0).view.set = _ from g0, show (outB i (Memref.whole main_v25_scv) 1 lt1).view.set = _ from g1]
    rfl
  rw [eg, eg]
  rw [second_eq]
  exact tile_glue i d (Memref.whole main_v24_scv) (Memref.isWhole_whole _) (Memref.whole main_v23_scv) (Memref.isWhole_whole _)
    (Memref.whole main_v25_scv) (Memref.isWhole_whole _) (Memref.whole cc3_scoped0) (Memref.isWhole_whole _) cc3_scoped1
    (Memref.whole cc3_scoped2) (Memref.isWhole_whole _) cc3_scoped3 cc3_scoped4 facts O W hO _ (Vl.t 1 d) (Vl.x 1 d) (Vl.o 1 d) (res Vl 1 d)
    (fun n hn x => Vl.hx 1 d _) (View.write_whole_univ _ _ _) _ _
    (ownBufs_two d _ _ cc3_scoped0 cc3_scoped2 (by decide) rfl rfl) (ownSems0_five d _ _ sems3 sems3_inj sems3_scoped)

theorem defs₀_vector1 (c : Fin τ.nSC) (s : Fin τ.nSub) :
    defs₀ (F := F) (.scVector c s) 1 ()
      = SparseCore.onTile hcore1 hsub1 (fun c s => cc1_gather_kernel (coordsV c s)
          (Memref.whole main_v14_scv) (Memref.isWhole_whole _) (Memref.whole main_v13_scv) (Memref.isWhole_whole _)
          (Memref.whole main_v15_scv) (Memref.isWhole_whole _) (Memref.whole cc1_scoped0) (Memref.isWhole_whole _) cc1_scoped1
          (Memref.whole cc1_scoped2) (Memref.isWhole_whole _) cc1_scoped3 cc1_scoped4) ⟨⟩ c s := rfl

theorem defs₀_vector3 (c : Fin τ.nSC) (s : Fin τ.nSub) :
    defs₀ (F := F) (.scVector c s) 3 ()
      = SparseCore.onTile hcore1 hsub1 (fun c s => cc3_gather_kernel (coordsV c s)
          (Memref.whole main_v24_scv) (Memref.isWhole_whole _) (Memref.whole main_v23_scv) (Memref.isWhole_whole _)
          (Memref.whole main_v25_scv) (Memref.isWhole_whole _) (Memref.whole cc3_scoped0) (Memref.isWhole_whole _) cc3_scoped1
          (Memref.whole cc3_scoped2) (Memref.isWhole_whole _) cc3_scoped3 cc3_scoped4) ⟨⟩ c s := rfl

set_option maxRecDepth 16384 in
theorem tileObl0 : (K (F := F)).TileObl (D (F := F)) 𝒱 (P Vl) v₀ 0 := by
  intro d c i O W hO _ _
  simp only [show (P Vl).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task0 Vl (coordsV ⟨_, hci.1⟩ ⟨_, hci.2⟩) d O W hO).trans (wp_mono frame _ _ fun _ => obl_post)

set_option maxRecDepth 16384 in
theorem tileObl1 : (K (F := F)).TileObl (D (F := F)) 𝒱 (P Vl) v₀ 1 := by
  intro d c i O W hO _ _
  simp only [show (P Vl).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (task1 Vl (coordsV ⟨_, hci.1⟩ ⟨_, hci.2⟩) d O W hO).trans (wp_mono frame _ _ fun _ => obl_post)

end Cert.Proof.Tile

end
-- ==== Proof.Host.lean ====
module

public import proofs.«01_k».proof.Proof.Calls
public import Idealize.ShloMosaic.Lib.Pipeline.Frame
public import Idealize.ShloMosaic.Lib.StableHlo.Run

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after)

variable {F : FTy → Type} [FloatOps F]

/-! ## The host operations between the launches, as lists -/

/-- The operation of a selection between two rows. -/
def whereOps (arg0 : StableHlo.TRef sig ⟨S2048, .i1⟩) (arg1 : StableHlo.TRef sig ⟨S2048, .i32⟩) (arg2 : StableHlo.TRef sig ⟨S2048, .i32⟩) (φ : fn_where.Bufs) : List (HloOp τ sig (Elt F)) :=
   [StableHlo.TRef.ternary arg0 arg1 arg2 φ.v0 select]

/-- The operations of the rounded-down quotient. -/
def quotOps (arg0 : StableHlo.TRef sig ⟨S2048, .i32⟩) (arg1 : StableHlo.TRef sig ⟨S_, .i32⟩) (φ : fn_floor_divide.Bufs) : List (HloOp τ sig (Elt F)) :=
   [StableHlo.TRef.unary arg1 φ.v0 id,
    StableHlo.TRef.unary φ.v0 φ.v1 (broadcastInDim S2048 ![] bcast_S_S2048),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S2048 ![] bcast_S_S2048),
    StableHlo.TRef.binary φ.v3 φ.v5 φ.v6 (cmpi .ne),
    StableHlo.TRef.unary φ.v0 φ.v7 (broadcastInDim S2048 ![] bcast_S_S2048),
    StableHlo.TRef.binary arg0 φ.v7 φ.v8 Host.remsi,
    StableHlo.TRef.nullary φ.c (constantI S_ 32 0#32),
    StableHlo.TRef.unary φ.c φ.v9 (broadcastInDim S2048 ![] bcast_S_S2048),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S2048 ![] bcast_S_S2048),
    StableHlo.TRef.binary φ.v2 φ.v12 φ.v13 subi] ++
   whereOps φ.v11 φ.v13 φ.v2 φ.call0

/-- The operation of a selection between two words. -/
def where0Ops (arg0 : StableHlo.TRef sig ⟨S_, .i1⟩) (arg1 : StableHlo.TRef sig ⟨S_, .i32⟩) (arg2 : StableHlo.TRef sig ⟨S_, .i32⟩) (φ : fn_where_0.Bufs) : List (HloOp τ sig (Elt F)) :=
   [StableHlo.TRef.ternary arg0 arg1 arg2 φ.v0 select]

/-- The operations of the remainder with the divisor's sign. -/
def remOps (arg0 : StableHlo.TRef sig ⟨S2048, .i32⟩) (arg1 : StableHlo.TRef sig ⟨S_, .i32⟩) (φ : fn_remainder.Bufs) : List (HloOp τ sig (Elt F)) :=
   [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)] ++
   where0Ops φ.v1 φ.c_0 φ.v0 φ.call0 ++
   [StableHlo.TRef.unary φ.call0.v0 φ.v3 (broadcastInDim S2048 ![] bcast_S_S2048),
    StableHlo.TRef.binary arg0 φ.v3 φ.v4 Host.remsi,
    StableHlo.TRef.nullary φ.c_1 (constantI S_ 32 0#32),
    StableHlo.TRef.unary φ.c_1 φ.v5 (broadcastInDim S2048 ![] bcast_S_S2048),
    StableHlo.TRef.binary φ.v4 φ.v5 φ.v6 (cmpi .ne),
    StableHlo.TRef.nullary φ.c_2 (constantI S_ 32 0#32),
    StableHlo.TRef.unary φ.c_2 φ.v7 (broadcastInDim S2048 ![] bcast_S_S2048),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S2048 ![] bcast_S_S2048),
    StableHlo.TRef.binary φ.v8 φ.v10 φ.v11 (cmpi .ne),
    StableHlo.TRef.binary φ.v11 φ.v6 φ.v12 andi,
    StableHlo.TRef.unary φ.call0.v0 φ.v13 (broadcastInDim S2048 ![] bcast_S_S2048),
    StableHlo.TRef.binary φ.v4 φ.v13 φ.v14 addi,
    StableHlo.TRef.ternary φ.v12 φ.v14 φ.v4 φ.v15 select]

/-- The operations of the padding of a codebook to 128 columns. -/
def padOps (arg0 : StableHlo.TRef sig ⟨S4096x32, .f32⟩) (arg1 : StableHlo.TRef sig ⟨S_, .i32⟩) (φ : fn_pad.Bufs) : List (HloOp τ sig (Elt F)) :=
   [StableHlo.TRef.unary arg1 φ.v0 (sitofp .f32),
    StableHlo.TRef.binary arg0 φ.v0 φ.v1 (fun x v => pad S4096x128 ![0, 0] ![0, 96] ![0, 0] x v pads_S4096x32_S4096x128_000_0960 h_S_)]

/-- The digits of the index. -/
def digitOps : List (HloOp τ sig (Elt F)) :=
   [StableHlo.nullary main_v0 (iotaInDim S2048 32 0),
    StableHlo.nullary main_c (constantI S_ 32 64#32)] ++
   quotOps (.of main_v0) (.of main_c) main_call0 ++
   [StableHlo.nullary main_c_0 (constantI S_ 32 64#32)] ++
   remOps (.of main_v0) (.of main_c_0) main_call1

/-- The two rows of digits, the first codebook, its squared lengths and the activations in halves. -/
def bookOps : List (HloOp τ sig (Elt F)) :=
   [StableHlo.unary main_v1 main_v3 (broadcastInDim S1x2048 ![1] bcast_S2048_S1x2048_1 : (⟨S2048, .i32⟩ : BufTy).Contents (Elt F) → (⟨S1x2048, .i32⟩ : BufTy).Contents (Elt F)),
    StableHlo.unary main_v2 main_v4 (broadcastInDim S1x2048 ![1] bcast_S2048_S1x2048_1 : (⟨S2048, .i32⟩ : BufTy).Contents (Elt F) → (⟨S1x2048, .i32⟩ : BufTy).Contents (Elt F)),
    StableHlo.binary main_v3 main_v4 main_v5 ((fun a b => concatenate S2x2048 0 [⟨S1x2048, a⟩, ⟨S1x2048, b⟩] concatenates_S1x2048_S1x2048_S2x2048_d0) : (⟨S1x2048, .i32⟩ : BufTy).Contents (Elt F) → (⟨S1x2048, .i32⟩ : BufTy).Contents (Elt F) → (⟨S2x2048, .i32⟩ : BufTy).Contents (Elt F)),
    StableHlo.unary main_v5 main_v6 (sitofp .bf16 : (⟨S2x2048, .i32⟩ : BufTy).Contents (Elt F) → (⟨S2x2048, .bf16⟩ : BufTy).Contents (Elt F)),
    StableHlo.unary main_arg1 main_v7 ((truncf .bf16 · bitsLt_bf16_f32) : (⟨S4096x32, .f32⟩ : BufTy).Contents (Elt F) → (⟨S4096x32, .bf16⟩ : BufTy).Contents (Elt F)),
    StableHlo.binary main_arg1 main_arg1 main_v8 (mulf : (⟨S4096x32, .f32⟩ : BufTy).Contents (Elt F) → (⟨S4096x32, .f32⟩ : BufTy).Contents (Elt F) → (⟨S4096x32, .f32⟩ : BufTy).Contents (Elt F)),
    StableHlo.nullary main_cst (constant S_ .f32 0x00000000#32),
    StableHlo.binary main_v8 main_cst main_v9 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    StableHlo.unary main_v9 main_v10 (broadcastInDim S4096x1 ![0] bcast_S4096_S4096x1_0 : (⟨S4096, .f32⟩ : BufTy).Contents (Elt F) → (⟨S4096x1, .f32⟩ : BufTy).Contents (Elt F)),
    StableHlo.reshape main_arg0 main_v11 (rfl : (.f32 : EltTy) = .f32) shapeCasts_S16x64x32x32_S16x2x32x32x32]

/-- Before the first search. -/
def ops0 : List (HloOp τ sig (Elt F)) := digitOps ++ bookOps

/-- Between the first search and the first gather: the row of indices and the padded codebook. -/
def ops1 : List (HloOp τ sig (Elt F)) :=
   [StableHlo.reshape main_v12 main_v13 (rfl : (.i32 : EltTy) = .i32) shapeCasts_S16x1x1024_S1x16384,
    StableHlo.nullary main_c_1 (constantI S_ 32 0#32)] ++
   padOps (.of main_arg1) (.of main_c_1) main_call2

/-- Between the first gather and the second search. -/
def ops2 : List (HloOp τ sig (Elt F)) :=
   [StableHlo.unary main_v15 main_v16 ((extractStridedSlice S16384x32 ![0, 0] · slices_S16384x128_S16384x32_0_0) : (⟨S16384x128, .f32⟩ : BufTy).Contents (Elt F) → (⟨S16384x32, .f32⟩ : BufTy).Contents (Elt F)),
    StableHlo.unary main_arg2 main_v17 ((truncf .bf16 · bitsLt_bf16_f32) : (⟨S4096x32, .f32⟩ : BufTy).Contents (Elt F) → (⟨S4096x32, .bf16⟩ : BufTy).Contents (Elt F)),
    StableHlo.binary main_arg2 main_arg2 main_v18 (mulf : (⟨S4096x32, .f32⟩ : BufTy).Contents (Elt F) → (⟨S4096x32, .f32⟩ : BufTy).Contents (Elt F) → (⟨S4096x32, .f32⟩ : BufTy).Contents (Elt F)),
    StableHlo.nullary main_cst_2 (constant S_ .f32 0x00000000#32),
    StableHlo.binary main_v18 main_cst_2 main_v19 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    StableHlo.unary main_v19 main_v20 (broadcastInDim S4096x1 ![0] bcast_S4096_S4096x1_0 : (⟨S4096, .f32⟩ : BufTy).Contents (Elt F) → (⟨S4096x1, .f32⟩ : BufTy).Contents (Elt F)),
    StableHlo.reshape main_arg0 main_v21 (rfl : (.f32 : EltTy) = .f32) shapeCasts_S16x64x32x32_S16x2x32x32x32]

/-- Between the second search and the second gather. -/
def ops3 : List (HloOp τ sig (Elt F)) :=
   [StableHlo.reshape main_v22 main_v23 (rfl : (.i32 : EltTy) = .i32) shapeCasts_S16x1x1024_S1x16384,
    StableHlo.nullary main_c_3 (constantI S_ 32 0#32)] ++
   padOps (.of main_arg2) (.of main_c_3) main_call3

/-- After the second gather: the two results, side by side. -/
def ops4 : List (HloOp τ sig (Elt F)) :=
   [StableHlo.unary main_v25 main_v26 ((extractStridedSlice S16384x32 ![0, 0] · slices_S16384x128_S16384x32_0_0) : (⟨S16384x128, .f32⟩ : BufTy).Contents (Elt F) → (⟨S16384x32, .f32⟩ : BufTy).Contents (Elt F)),
    StableHlo.unary main_v16 main_v27 (broadcastInDim S1x16384x32 ![1, 2] bcast_S16384x32_S1x16384x32_1_2 : (⟨S16384x32, .f32⟩ : BufTy).Contents (Elt F) → (⟨S1x16384x32, .f32⟩ : BufTy).Contents (Elt F)),
    StableHlo.unary main_v26 main_v28 (broadcastInDim S1x16384x32 ![1, 2] bcast_S16384x32_S1x16384x32_1_2 : (⟨S16384x32, .f32⟩ : BufTy).Contents (Elt F) → (⟨S1x16384x32, .f32⟩ : BufTy).Contents (Elt F)),
    StableHlo.binary main_v27 main_v28 main_v29 ((fun a b => concatenate S2x16384x32 0 [⟨S1x16384x32, a⟩, ⟨S1x16384x32, b⟩] concatenates_S1x16384x32_S1x16384x32_S2x16384x32_d0) : (⟨S1x16384x32, .f32⟩ : BufTy).Contents (Elt F) → (⟨S1x16384x32, .f32⟩ : BufTy).Contents (Elt F) → (⟨S2x16384x32, .f32⟩ : BufTy).Contents (Elt F)),
    StableHlo.reshape main_v29 main_v30 (rfl : (.f32 : EltTy) = .f32) shapeCasts_S2x16384x32_S2x16x32x32x32,
    StableHlo.unary main_v30 main_v31 ((transpose S16x2x32x32x32 [1, 0, 4, 2, 3] · transposes_S2x16x32x32x32_S16x2x32x32x32_1_0_4_2_3) : (⟨S2x16x32x32x32, .f32⟩ : BufTy).Contents (Elt F) → (⟨S16x2x32x32x32, .f32⟩ : BufTy).Contents (Elt F)),
    StableHlo.reshape main_v31 main_v32 (rfl : (.f32 : EltTy) = .f32) shapeCasts_S16x2x32x32x32_S16x64x32x32]

/-- The program: host operations, a search, host operations, a gather, twice, and the host operations that join the results. -/
theorem main_eq (d : Dev nD) : main (F := F) d =
    (seq ops0 >>= fun _ => Prog.lift (.customCall (SparseCore.inner (Pipeline.entry 0)) ()) >>= fun _ => seq ops1 >>= fun _ => sc.run d 0 >>= fun _ =>
      seq ops2 >>= fun _ => Prog.lift (.customCall (SparseCore.inner (Pipeline.entry 1)) ()) >>= fun _ => seq ops3 >>= fun _ => sc.run d 1 >>= fun _ =>
        seq ops4 >>= fun _ => pure ⟨⟩) := by
  rfl

theorem sub_of (ops : List (HloOp τ sig (Elt F))) (h : ops.Forall fun op => op.bufs ⊆ StableHlo.tcRefs τ sig) : ∀ op ∈ ops, op.bufs ⊆ Pipeline.ucRefs τ sig :=
  fun op hop b hb => Finset.mem_filter.mpr ⟨(List.forall_iff_forall_mem.mp h) op hop hb, fun h' => Bool.false_ne_true ((op.no_scoped b hb).symm.trans h')⟩

/-- What the launch asks of each list: whole references of the TensorCore, and nothing left to chance. -/
theorem host_ops : (∀ op ∈ (ops0 (F := F)), op.bufs ⊆ Pipeline.ucRefs τ sig) ∧ (∀ op ∈ (ops1 (F := F)), op.bufs ⊆ Pipeline.ucRefs τ sig) ∧
    (∀ op ∈ (ops2 (F := F)), op.bufs ⊆ Pipeline.ucRefs τ sig) ∧ (∀ op ∈ (ops3 (F := F)), op.bufs ⊆ Pipeline.ucRefs τ sig) ∧
    (∀ op ∈ (ops4 (F := F)), op.bufs ⊆ Pipeline.ucRefs τ sig) := by
  refine ⟨sub_of _ ?_, sub_of _ ?_, sub_of _ ?_, sub_of _ ?_, sub_of _ ?_⟩
  all_goals
    simp only [ops0, digitOps, bookOps, ops1, ops2, ops3, ops4, whereOps, where0Ops, quotOps, remOps, padOps, List.cons_append, List.nil_append, List.Forall,
      StableHlo.TRef.nullary, StableHlo.TRef.unary, StableHlo.TRef.binary, StableHlo.TRef.ternary,
      StableHlo.nullary_bufs_sub, StableHlo.unary_bufs_sub, StableHlo.binary_bufs_sub, StableHlo.ternary_bufs_sub, StableHlo.reshape_bufs_sub, and_self]

theorem host_fresh : (∀ op ∈ (ops0 (F := F)), op.fresh = ∅) ∧ (∀ op ∈ (ops1 (F := F)), op.fresh = ∅) ∧ (∀ op ∈ (ops2 (F := F)), op.fresh = ∅) ∧
    (∀ op ∈ (ops3 (F := F)), op.fresh = ∅) ∧ (∀ op ∈ (ops4 (F := F)), op.fresh = ∅) := by
  refine ⟨List.forall_iff_forall_mem.mp ?_, List.forall_iff_forall_mem.mp ?_, List.forall_iff_forall_mem.mp ?_, List.forall_iff_forall_mem.mp ?_,
    List.forall_iff_forall_mem.mp ?_⟩
  all_goals
    simp only [ops0, digitOps, bookOps, ops1, ops2, ops3, ops4, whereOps, where0Ops, quotOps, remOps, padOps, List.cons_append, List.nil_append, List.Forall]
    repeat' apply And.intro
  all_goals rfl

end Cert.Proof.Tile

end
-- ==== Proof.Region.lean ====
module

public import proofs.«01_k».proof.Proof.Calls
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.FrameBody
public import Idealize.ShloMosaic.Lib.Pipeline.ValueKit.Geometry

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf RegionSeg)

variable {F : FTy → Type} [FloatOps F]

local notation "𝕄" => MT nD τ sig (HIx 2) (Elt F) ℕ UU ℕ

/-! ## The search kernel at one grid point -/

/-- The index block the search kernel stores, of the four blocks it loads: the activations, the codebook, the codewords'
    squared lengths, and the two rows of the index's digits. -/
def argBlk (x : FVec F S1x1x32x32x32 .f32) (e : FVec F S4096x32 .bf16) (n : FVec F S4096x1 .f32) (h : FVec F S2x2048 .bf16) : IVec S1x1x1024 32 :=
  k2_pay1 (k2_pay2 h) (k2_pay5 x e n) (k2_pay6 x e n h) (k2_pay8 x e n) (k2_pay9 x e n)

theorem read_unit_whole {sp : Space} {s : Shape} {e : EltTy} (M : Memref sig .tc sp s e) (f : M.view.ty.Contents (Elt F)) (o : Fin s.rank → ℕ) (ho : ∀ a, o a = 0)
    (inb : ∀ a, o a + s.size a ≤ s.size a) : M.view.readAt (Elt F) (Rect.unit o s.size inb).toLoadRect f = M.view.read (Elt F) f := by
  obtain rfl : o = fun _ => 0 := funext ho
  funext x
  show M.view.read (Elt F) f _ = _
  congr 1
  funext a
  exact Fin.ext (by show 0 + 1 * (x a).val = _; omega)

theorem read_writes_unit_whole {sp : Space} {s : Shape} {e : EltTy} (M : Memref sig .tc sp s e) (f : M.view.ty.Contents (Elt F)) (o : Fin s.rank → ℕ) (ho : ∀ a, o a = 0)
    (inb : ∀ a, o a + s.size a ≤ s.size a) (w : s.Idx → Elt F e) :
    M.view.read (Elt F) (M.view.writes (Elt F) f [⟨Rect.unit o s.size inb, w⟩]) = w := by
  obtain rfl : o = fun _ => 0 := funext ho
  funext x
  have hx : (Rect.unit (s := s) (fun _ => 0) s.size inb).emb x = x := by
    funext a
    exact Fin.ext (by show 0 + 1 * (x a).val = _; omega)
  have h := View.read_writes_cons_emb (Val := Elt F) M.view f (Rect.unit (s := s) (fun _ => 0) s.size inb) w [] x
  rw [hx] at h
  exact h

/-- The search kernel from its five buffers: the four inputs come back as they were, the output at the index block. -/
theorem arg_run (c : Dev nD) (i : grid2.Coords)
    (M1 : Memref sig .tc .vmem S1x1x32x32x32 .f32) (h1 : M1.IsWhole) (M2 : Memref sig .tc .vmem S4096x32 .bf16) (h2 : M2.IsWhole)
    (M3 : Memref sig .tc .vmem S4096x1 .f32) (h3 : M3.IsWhole) (M4 : Memref sig .tc .vmem S2x2048 .bf16) (h4 : M4.IsWhole)
    (M5 : Memref sig .tc .vmem S1x1x1024 .i32) (h5 : M5.IsWhole) (X1 : FVec F S1x1x32x32x32 .f32) (X2 : FVec F S4096x32 .bf16)
    (X3 : FVec F S4096x1 .f32) (X4 : FVec F S2x2048 .bf16) (X5 : IVec S1x1x1024 32) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5)
      ⊢ wp frame (wpE (defs₀ (F := F)) 𝒱₀ (c : Thread nD τ) none) Set.univ (cc2__argmin_kernel i M1 h1 M2 h2 M3 h3 M4 h4 M5 h5)
        fun _ => (iprop(owns (c : Thread nD τ) M1 fullShare X1 ∗ owns (c : Thread nD τ) M2 fullShare X2 ∗ owns (c : Thread nD τ) M3 fullShare X3
          ∗ owns (c : Thread nD τ) M4 fullShare X4 ∗ owns (c : Thread nD τ) M5 fullShare (argBlk X1 X2 X3 X4)) : sProp 𝕄) := by
  rw [cc2__argmin_kernel_eq_skeleton]
  unfold cc2__argmin_kernel_skel
  rw [k2_part1_eq_skeleton]
  unfold k2_part1_skel owns
  rw [h1.set_eq_univ, h2.set_eq_univ, h3.set_eq_univ, h4.set_eq_univ, h5.set_eq_univ]
  iintro ⟨⟨%f1, %e1, H1⟩, ⟨%f2, %e2, H2⟩, ⟨%f3, %e3, H3⟩, ⟨%f4, %e4, H4⟩, ⟨%f5, %e5, H5⟩⟩
  sl_exec
  sl_step
  have r1 := read_unit_whole M1 f1 ![0, 0, 0, 0, 0] (by decide) inb_S1x1x32x32x32_S1x1x32x32x32_0_0_0_0_0
  have r2 := read_unit_whole M2 f2 ![0, 0] (by decide) inb_S4096x32_S4096x32_0_0
  have r3 := read_unit_whole M3 f3 ![0, 0] (by decide) inb_S4096x1_S4096x1_0_0
  have r4 := read_unit_whole M4 f4 ![0, 0] (by decide) inb_S2x2048_S2x2048_0_0
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  iexists _; isplitr; swap; (· iexact H5)
  ipureintro
  rw [r1, r2, r3, r4, e1, e2, e3, e4]
  exact read_writes_unit_whole M5 f5 ![0, 0, 0] (by decide) inb_S1x1x1024_S1x1x1024_0_0_0 _

/-- The two calls run one kernel. -/
theorem arg_eq : cc0__argmin_kernel (F := F) = cc2__argmin_kernel (F := F) := rfl

/-! ## The two searches as pipelines -/

/-- What the thread owes, and the bound on the waits it has recorded, over the two searches. -/
structure Owe (F : FTy → Type) where
  O : Dev nD → CellTallies nD τ sig (HIx 2)
  B : Dev nD → Set (SemLoc sig × HIx 2)
  hO : ∀ c g, O c g none = 0
  hB : ∀ c s, (SemLoc.dma s, (none : HIx 2)) ∈ B c

variable (o : Owe F) (W : Dev nD → Valuation τ sig (Elt F)) (Φ₀ : Dev nD → sProp (MT nD τ sig (HIx 2) (Elt F) ℕ UU ℕ))

/-- No pipeline prefetches a table. -/
abbrev adm : (p : Fin 2) → (pcfgs (F := F) p).Adm := fun p => (cfgs p).toPCfg_adm

/-- Window `w`'s block at point `t`, of the arrays at the valuation. -/
abbrev blk0 (c : Dev nD) (w : Fin 5) (t : Fin cfg0.N) : ((cfg0.win w).xblock (cfg0.grid.coords t)).Idx → Elt F (cfg0.win w).elt :=
  ((cfg0.win w).blk t).view.read (Elt F) (W c (Proc.devRef .tc (Pipeline.arrRef spec0 w)))

abbrev blk2 (c : Dev nD) (w : Fin 5) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The proof data of the first search from a valuation: the input blocks stay as fetched, the output block is the index block of theirs. -/
def dat0 (c : Dev nD) : Dat τ (Elt F) (HIx 2) ℕ UU ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => blk0 W c 3 t
    | ⟨4, _⟩ => argBlk (blk0 W c 0 t) (blk0 W c 1 t) (blk0 W c 2 t) (blk0 W c 3 t)
  Φ _ := Φ₀ c
  q _ := fullShare
  owed _ := o.O c
  recorded _ := o.B c

/-- The proof data of the second search. -/
def dat2 (c : Dev nD) : Dat τ (Elt F) (HIx 2) ℕ UU ℕ cfg2 c where
  A w := W c (Proc.devRef .tc (Pipeline.arrRef spec2 w))
  after w t := match w with
    | ⟨0, _⟩ => blk2 W c 0 t
    | ⟨1, _⟩ => blk2 W c 1 t
    | ⟨2, _⟩ => blk2 W c 2 t
    | ⟨3, _⟩ => blk2 W c 3 t
    | ⟨4, _⟩ => argBlk (blk2 W c 0 t) (blk2 W c 1 t) (blk2 W c 2 t) (blk2 W c 3 t)
  Φ _ := Φ₀ c
  q _ := fullShare
  owed _ := o.O c
  recorded _ := o.B c

theorem before0 (c : Dev nD) (t : Fin cfg0.N) :
    (∀ d, (dat0 o W Φ₀ c).before 0 t d = blk0 W c 0 t) ∧ (∀ d, (dat0 o W Φ₀ c).before 1 t d = blk0 W c 1 t)
      ∧ (∀ d, (dat0 o W Φ₀ c).before 2 t d = blk0 W c 2 t) ∧ (∀ d, (dat0 o W Φ₀ c).before 3 t d = blk0 W c 3 t) :=
  ⟨fun d => (dat0 o W Φ₀ c).before_in_eq_fetched 0 rfl (fun _ => rfl) (fun _ _ _ => rfl) (fun _ => rfl) t d,
    fun d => (dat0 o W Φ₀ c).before_in_eq_fetched 1 rfl (fun _ => rfl) (fun _ _ _ => rfl) (fun _ => rfl) t d,
    fun d => (dat0 o W Φ₀ c).before_in_eq_fetched 2 rfl (fun _ => rfl) (fun _ _ _ => rfl) (fun _ => rfl) t d,
    fun d => (dat0 o W Φ₀ c).before_in_eq_fetched 3 rfl (fun _ => rfl) (fun _ _ _ => rfl) (fun _ => rfl) t d⟩

theorem before2 (c : Dev nD) (t : Fin cfg2.N) :
    (∀ d, (dat2 o W Φ₀ c).before 0 t d = blk2 W c 0 t) ∧ (∀ d, (dat2 o W Φ₀ c).before 1 t d = blk2 W c 1 t)
      ∧ (∀ d, (dat2 o W Φ₀ c).before 2 t d = blk2 W c 2 t) ∧ (∀ d, (dat2 o W Φ₀ c).before 3 t d = blk2 W c 3 t) :=
  ⟨fun d => (dat2 o W Φ₀ c).before_in_eq_fetched 0 rfl (fun _ => rfl) (fun _ _ _ => rfl) (fun _ => rfl) t d,
    fun d => (dat2 o W Φ₀ c).before_in_eq_fetched 1 rfl (fun _ => rfl) (fun _ _ _ => rfl) (fun _ => rfl) t d,
    fun d => (dat2 o W Φ₀ c).before_in_eq_fetched 2 rfl (fun _ => rfl) (fun _ _ _ => rfl) (fun _ => rfl) t d,
    fun d => (dat2 o W Φ₀ c).before_in_eq_fetched 3 rfl (fun _ => rfl) (fun _ _ _ => rfl) (fun _ => rfl) t d⟩

theorem obl0 (c : Dev nD) : BodyObligation (dat0 o W Φ₀ c) (defs₀ (F := F)) 𝒱₀ none Set.univ := fun t => by
  rw [bigSep_W0, bigSep_W0]
  obtain ⟨b0, b1, b2, b3⟩ := before0 o W Φ₀ c t
  rw [show (dat0 o W Φ₀ c).Φ t.succ = (dat0 o W Φ₀ c).Φ t.castSucc from rfl,
    show (dat0 o W Φ₀ c).owesAt none t.succ = (dat0 o W Φ₀ c).owesAt none t.castSucc from rfl]
  simp only [b0, b1, b2, b3]
  iintro ⟨HΦ, Howes, ⟨%d0, H0⟩, ⟨%d1, H1⟩, ⟨%d2, H2⟩, ⟨%d3, H3⟩, ⟨%d4, H4⟩⟩
  iapply (exec_cut_last frame (wpE (defs₀ (F := F)) 𝒱₀ (c : Thread nD τ) none) Set.univ
    (arg_run c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (blk0 W c 0 t) (blk0 W c 1 t) (blk0 W c 2 t) (blk0 W c 3 t) _)) $$ [H0 H1 H2 H3 H4]
  · isplitl [H0]; · iexact H0
    isplitl [H1]; · iexact H1
    isplitl [H2]; · iexact H2
    isplitl [H3]; · iexact H3
    iexact H4
  iintro %r ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

theorem obl2 (c : Dev nD) : BodyObligation (dat2 o W Φ₀ c) (defs₀ (F := F)) 𝒱₀ none Set.univ := fun t => by
  rw [bigSep_W2, bigSep_W2]
  obtain ⟨b0, b1, b2, b3⟩ := before2 o W Φ₀ c t
  rw [show (dat2 o W Φ₀ c).Φ t.succ = (dat2 o W Φ₀ c).Φ t.castSucc from rfl,
    show (dat2 o W Φ₀ c).owesAt none t.succ = (dat2 o W Φ₀ c).owesAt none t.castSucc from rfl]
  simp only [b0, b1, b2, b3]
  iintro ⟨HΦ, Howes, ⟨%d0, H0⟩, ⟨%d1, H1⟩, ⟨%d2, H2⟩, ⟨%d3, H3⟩, ⟨%d4, H4⟩⟩
  iapply (exec_cut_last frame (wpE (defs₀ (F := F)) 𝒱₀ (c : Thread nD τ) none) Set.univ
    (arg_run c (grid2.coords t) (st2_0 t) (hstage2_0 ((cfg2.slots t 0).cast nbuf2_0)) (st2_1 t) (hstage2_1 ((cfg2.slots t 1).cast nbuf2_1))
      (st2_2 t) (hstage2_2 ((cfg2.slots t 2).cast nbuf2_2)) (st2_3 t) (hstage2_3 ((cfg2.slots t 3).cast nbuf2_3))
      (st2_4 t) (hstage2_4 ((cfg2.slots t 4).cast nbuf2_4)) (blk2 W c 0 t) (blk2 W c 1 t) (blk2 W c 2 t) (blk2 W c 3 t) _)) $$ [H0 H1 H2 H3 H4]
  · isplitl [H0]; · iexact H0
    isplitl [H1]; · iexact H1
    isplitl [H2]; · iexact H2
    isplitl [H3]; · iexact H3
    iexact H4
  iintro %r ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The proof data of the two searches, from one valuation and invariant. -/
def datp : (p : Fin 2) → (c : Dev nD) → Dat τ (Elt F) (HIx 2) ℕ UU ℕ (Pipeline.pin (pcfgs (F := F)) adm p) c
  | ⟨0, _⟩ => dat0 o W Φ₀
  | ⟨1, _⟩ => dat2 o W Φ₀

theorem kits : (p : Fin 2) → Pipeline.PLaunchFacts (nD := nD) (τ := τ) (pcfgs (F := F)) p
  | ⟨0, _⟩ => launch0.toP
  | ⟨1, _⟩ => launch2.toP

theorem datp_obl : (p : Fin 2) → (c : Dev nD) → BodyObligation (datp o W Φ₀ p c) (defs₀ (F := F)) 𝒱₀ none Set.univ
  | ⟨0, _⟩ => obl0 o W Φ₀
  | ⟨1, _⟩ => obl2 o W Φ₀

theorem datp_Φ : (p : Fin 2) → (c : Dev nD) → ∀ t, (datp o W Φ₀ p c).Φ t = Φ₀ c
  | ⟨0, _⟩ => fun _ _ => rfl
  | ⟨1, _⟩ => fun _ _ => rfl

theorem arrs_sub (p : Fin 2) : Pipeline.arrRefs (τ := τ) (pcfgs (F := F) p).spec ⊆ Pipeline.ucRefs τ sig :=
  Pipeline.arrRefs_sub_ucRefs _ (by
    match p with
    | ⟨0, _⟩ => exact (by decide : ∀ w, (Pipeline.arrRef spec0 w).isScoped = false)
    | ⟨1, _⟩ => exact (by decide : ∀ w, (Pipeline.arrRef spec2 w).isScoped = false))

theorem datp_owed : (p : Fin 2) → (c : Dev nD) → ∀ t, (datp o W Φ₀ p c).owed t = o.O c ∧ (datp o W Φ₀ p c).recorded t = o.B c
  | ⟨0, _⟩ => fun _ _ => ⟨rfl, rfl⟩
  | ⟨1, _⟩ => fun _ _ => ⟨rfl, rfl⟩

theorem datp_share : (p : Fin 2) → (c : Dev nD) → ∀ w, (datp o W Φ₀ p c).share w = fullShare
  | ⟨0, _⟩ => fun c => (dat0 o W Φ₀ c).share_full fun _ => rfl
  | ⟨1, _⟩ => fun c => (dat2 o W Φ₀ c).share_full fun _ => rfl

theorem datp_A : (p : Fin 2) → (c : Dev nD) → ∀ w, (datp o W Φ₀ p c).arrAt w 0
      = W c (Proc.devRef .tc (Pipeline.arrRef (Pipeline.pin (pcfgs (F := F)) adm p).spec w))
  | ⟨0, _⟩ => fun _ _ => rfl
  | ⟨1, _⟩ => fun _ _ => rfl

/-- The proof data as the program runs them: the buffers no search stages ride along. -/
def pdats (p : Fin 2) (c : Dev nD) : Dat τ (Elt F) (HIx 2) ℕ UU ℕ (Pipeline.pin (pcfgs (F := F)) adm p) c :=
  datp o W (fun c => Pipeline.scopedRest (Ix := HIx 2) (Name := ℕ) (U := UU) (Lvl := ℕ) (Val := Elt F) (Pipeline.pin (pcfgs (F := F)) adm p).spec c) p c

/-- What the thread owes, and the bound on what it has waited for. -/
abbrev Owed (c : Dev nD) : sProp 𝕄 := iprop(∃ Wd, ⌜∀ x ∈ Wd, x ∈ o.B c⌝ ∗ owes (c : Thread nD τ) (o.O c) Wd)

/-- The valuation after search `p`: the index array at the blocks written back. -/
abbrev aft (p : Fin 2) (c : Dev nD) : Valuation τ sig (Elt F) := Pipeline.afterRegion (pdats o W p c) (W c)

set_option backward.isDefEq.respectTransparency.types false in
/-- Search `p`, over every unscoped buffer at a valuation and what the thread owes. -/
def reg (p : Fin 2) : RegionSeg (pcfgs (F := F)) adm (pdats o W) none defs₀ 𝒱₀ (K (F := F)).L (K (F := F)).lev p where
  win := (kits (F := F) p).win.to₀
  block_pos := (kits (F := F) p).block_pos
  stage_whole := (kits (F := F) p).stage_whole
  K := PEmpty
  osem k := k.elim
  ho := Pipeline.OwnSemFacts.none _
  hbody c := (datp_obl o W _ p c).loose
  hwaits c := Pipeline.cellsWaits_intro (Pipeline.pin (pcfgs (F := F)) adm) (pdats o W) none p c fun w s t => by
    rw [pdats, (datp_owed o W _ p c t).1]
    exact (K (F := F)).mayWait_none _ (o.hO c)
  pre c := iprop(StableHlo.held (c : Thread nD τ) (Pipeline.ucRefs τ sig) (W c) ∗ Owed o c)
  post c := iprop(StableHlo.held (c : Thread nD τ) (Pipeline.ucRefs τ sig) (aft o W p c) ∗ Owed o c)
  X _ := BI.emp
  Y _ := BI.emp
  Z c := StableHlo.held (c : Thread nD τ) (Pipeline.ucRefs τ sig \ Pipeline.arrRefs (pcfgs (F := F) p).spec) (W c)
  hentry c := by
    rw [Pipeline.ownSems0_none, Pipeline.prefHeld_of_none _ rfl, StableHlo.held_sub_split (c : Thread nD τ) (arrs_sub (F := F) p) (W c),
      Pipeline.arrays_held (pcfgs (F := F)) adm (pdats o W) p (kits (F := F) p) c (datp_share o W _ p c) ((pdats o W p c).arrAt · 0) (W c) (datp_A o W _ p c)]
    iintro ⟨⟨⟨Ha, Hr⟩, HO⟩, -, -⟩
    imodintro
    isplitl [Ha]; · iexact Ha
    isplitr; · iempintro
    isplitl [HO]
    · unfold Pipeline.Dat.owesAt Pipeline.owesWithin Pipeline.Dat.bound pdats
      rw [(datp_owed o W _ p c 0).1, (datp_owed o W _ p c 0).2]
      icases HO with ⟨%Wd, %hW, HO⟩; iexists Wd; isplitr; · ipureintro; exact fun x hx => Or.inl (hW x hx)
      iexact HO
    isplitr; · iempintro
    iexact Hr
  hin c := by
    rw [pdats, datp_Φ]
    iintro ⟨-, -, Hr⟩; iexact Hr
  hout c := by
    rw [Pipeline.ownSems0_none, pdats, datp_Φ]
    iintro Hr
    isplitr; · iempintro
    isplitr; · iempintro
    iexact Hr
  hexit c := by
    rw [StableHlo.held_sub_split (c : Thread nD τ) (arrs_sub (F := F) p) (aft o W p c),
      StableHlo.held_congr (c : Thread nD τ) (S := Pipeline.ucRefs τ sig \ Pipeline.arrRefs (pcfgs (F := F) p).spec) (V := aft o W p c) (V' := W c)
        (Pipeline.afterRegion_off (pdats o W p c) (W c) _),
      Pipeline.arrays_held (pcfgs (F := F)) adm (pdats o W) p (kits (F := F) p) c (datp_share o W _ p c) ((pdats o W p c).arrAt · (Pipeline.pin (pcfgs (F := F)) adm p).N)
        (aft o W p c) (fun w => (Pipeline.afterRegion_arr (pdats o W p c) (W c) (kits (F := F) p).win.arr_inj w).symm)]
    iintro ⟨Ha, HO, -, Hr⟩
    imodintro
    isplitl [Ha Hr]
    · isplitl [Ha]; · iexact Ha
      iexact Hr
    unfold Pipeline.Dat.owesAt Pipeline.owesWithin Pipeline.Dat.bound pdats
    rw [(datp_owed o W _ p c _).1, (datp_owed o W _ p c _).2]
    icases HO with ⟨%Wd, %hW, HO⟩; iexists Wd; isplitr
    · ipureintro
      intro x hx
      rcases hW hx with h | ⟨w, s, rfl⟩
      · exact h
      · exact o.hB c _
    iexact HO

end Cert.Proof.Tile
end
-- ==== Proof.Blocks.lean ====
module

public import proofs.«01_k».proof.Proof.Region
public import proofs.«01_k».proof.Proof.Gen.KernelIdeal.Launch
public import proofs.«01_k».proof.Proof.Gen.KernelIdeal.Points
public import Idealize.ShloMosaic.Lib.Pipeline.RegionArraysS
public import Idealize.ShloMosaic.Lib.Pipeline.ValueKit.Geometry
public import Idealize.ShloMosaic.Lib.Pointwise.Index

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf RegionSeg)

variable {F : FTy → Type} [FloatOps F]

local notation "𝕄" => MT nD τ sig (HIx 2) (Elt F) ℕ UU ℕ

/-! ## What the two searches leave in the index arrays -/

variable (o : Owe F) (W : Dev nD → Valuation τ sig (Elt F))

/-- The indices of every position: of the half `p` of the activations, the codebook, its squared lengths and the digits of the index. -/
def argArr (p : Fin 2) (x : FVec F S16x2x32x32x32 .f32) (e : FVec F S4096x32 .bf16) (n : FVec F S4096x1 .f32) (h : FVec F S2x2048 .bf16) :
    IVec S16x1x1024 32 :=
  fun i => argBlk (fun y => x (ix5 (i 0) p (y 2) (y 3) (y 4))) e n h (ix3 0 0 (i 2))

theorem idx0 : ∀ t : Fin cfg0.N, win0_0.index t = ![t.val, 0, 0, 0, 0] ∧ win0_1.index t = ![0, 0] ∧ win0_2.index t = ![0, 0] ∧ win0_3.index t = ![0, 0]
    ∧ win0_4.index t = ![t.val, 0, 0] := (by decide +kernel : ∀ t : Fin grid0.N, _)

theorem idx2 : ∀ t : Fin cfg2.N, win2_0.index t = ![t.val, 1, 0, 0, 0] ∧ win2_1.index t = ![0, 0] ∧ win2_2.index t = ![0, 0] ∧ win2_3.index t = ![0, 0]
    ∧ win2_4.index t = ![t.val, 0, 0] := (by decide +kernel : ∀ t : Fin grid2.N, _)

theorem argArr_at (p : Fin 2) (x : FVec F S16x2x32x32x32 .f32) (e : FVec F S4096x32 .bf16) (n : FVec F S4096x1 .f32) (h : FVec F S2x2048 .bf16)
    {x' : FVec F S1x1x32x32x32 .f32} {e' : FVec F S4096x32 .bf16} {n' : FVec F S4096x1 .f32} {h' : FVec F S2x2048 .bf16} {i : S16x1x1024.Idx} {y : S1x1x1024.Idx}
    (hx : x' = fun y => x (ix5 (i 0) p (y 2) (y 3) (y 4))) (he : e' = e) (hn : n' = n) (hh : h' = h) (hy : y = ix3 0 0 (i 2)) :
    argBlk x' e' n' h' y = argArr p x e n h i := by
  subst hx he hn hh hy; rfl

variable (Φ₀ : Dev nD → sProp (MT nD τ sig (HIx 2) (Elt F) ℕ UU ℕ))

theorem arr0_out (c : Dev nD) : (dat0 o W Φ₀ c).arrAt 4 cfg0.N
    = argArr 0 (W c (Proc.devRef .tc main_v11)) (W c (Proc.devRef .tc main_v7)) (W c (Proc.devRef .tc main_v10)) (W c (Proc.devRef .tc main_v6)) := by
  refine (dat0 o W Φ₀ c).arrAt_eq_of_covers 4 _ (by decide +kernel) (fun t hf y => ?_)
  obtain ⟨e0, e1, e2, e3, e4⟩ := idx0 t
  refine argArr_at (F := F) 0 _ _ _ _ (funext fun z => ?_) (funext fun z => ?_) (funext fun z => ?_) (funext fun z => ?_) ?_
  · refine congrArg (W c (Proc.devRef .tc main_v11)) (?_ : (win0_0.blk t).view.emb z = _)
    funext a
    apply Fin.ext
    match a with
    | ⟨0, _⟩ => blk_simp [e0, e4]
    | ⟨1, _⟩ => blk_simp [e0, e4]; rfl
    | ⟨2, _⟩ => blk_simp [e0, e4]; rfl
    | ⟨3, _⟩ => blk_simp [e0, e4]; rfl
    | ⟨4, _⟩ => blk_simp [e0, e4]; rfl
  · blk_ext [blk0, e1]
  · blk_ext [blk0, e2]
  · blk_ext [blk0, e3]
  · blk_ext [e4]

theorem arr2_out (c : Dev nD) : (dat2 o W Φ₀ c).arrAt 4 cfg2.N
    = argArr 1 (W c (Proc.devRef .tc main_v21)) (W c (Proc.devRef .tc main_v17)) (W c (Proc.devRef .tc main_v20)) (W c (Proc.devRef .tc main_v6)) := by
  refine (dat2 o W Φ₀ c).arrAt_eq_of_covers 4 _ (by decide +kernel) (fun t hf y => ?_)
  obtain ⟨e0, e1, e2, e3, e4⟩ := idx2 t
  refine argArr_at (F := F) 1 _ _ _ _ (funext fun z => ?_) (funext fun z => ?_) (funext fun z => ?_) (funext fun z => ?_) ?_
  · refine congrArg (W c (Proc.devRef .tc main_v21)) (?_ : (win2_0.blk t).view.emb z = _)
    funext a
    apply Fin.ext
    match a with
    | ⟨0, _⟩ => blk_simp [e0, e4]
    | ⟨1, _⟩ => blk_simp [e0, e4]; rfl
    | ⟨2, _⟩ => blk_simp [e0, e4]; rfl
    | ⟨3, _⟩ => blk_simp [e0, e4]; rfl
    | ⟨4, _⟩ => blk_simp [e0, e4]; rfl
  · blk_ext [blk2, e1]
  · blk_ext [blk2, e2]
  · blk_ext [blk2, e3]
  · blk_ext [e4]

theorem aft0_out (c : Dev nD) : aft o W 0 c (Proc.devRef .tc main_v12)
    = argArr 0 (W c (Proc.devRef .tc main_v11)) (W c (Proc.devRef .tc main_v7)) (W c (Proc.devRef .tc main_v10)) (W c (Proc.devRef .tc main_v6)) :=
  (Pipeline.afterRegion_arr (pdats o W 0 c) (W c) (kits (F := F) 0).win.arr_inj 4).trans (arr0_out o W _ c)

theorem aft1_out (c : Dev nD) : aft o W 1 c (Proc.devRef .tc main_v22)
    = argArr 1 (W c (Proc.devRef .tc main_v21)) (W c (Proc.devRef .tc main_v17)) (W c (Proc.devRef .tc main_v20)) (W c (Proc.devRef .tc main_v6)) :=
  (Pipeline.afterRegion_arr (pdats o W 1 c) (W c) (kits (F := F) 1).win.arr_inj 4).trans (arr2_out o W _ c)

/-- A search leaves every buffer but its index array. -/
theorem aft0_keeps (c : Dev nD) (r : Ref sig .tc) (h : ∀ w : Fin 5, Pipeline.arrRef spec0 w = r → (spec0 w).isOut = false) :
    aft o W 0 c (Proc.devRef .tc r) = W c (Proc.devRef .tc r) :=
  Pipeline.afterRegion_keeps (pdats o W 0 c) (W c) (kits (F := F) 0).win.arr_inj (fun _ => rfl) r h

theorem aft1_keeps (c : Dev nD) (r : Ref sig .tc) (h : ∀ w : Fin 5, Pipeline.arrRef spec2 w = r → (spec2 w).isOut = false) :
    aft o W 1 c (Proc.devRef .tc r) = W c (Proc.devRef .tc r) :=
  Pipeline.afterRegion_keeps (pdats o W 1 c) (W c) (kits (F := F) 1).win.arr_inj (fun _ => rfl) r h

theorem clamp_lt (v : BitVec 32) : (IntOp.minsi 4095#32 (IntOp.maxsi 0#32 v)).toNat < 4096 := by
  unfold IntOp.minsi IntOp.maxsi
  simp only [BitVec.sle, BitVec.slt, BitVec.toInt_eq_toNat_cond, decide_eq_true_eq]
  have := v.isLt
  split_ifs <;> simp_all <;> omega

theorem argArr_lt (p : Fin 2) (x : FVec F S16x2x32x32x32 .f32) (e : FVec F S4096x32 .bf16) (n : FVec F S4096x1 .f32) (h : FVec F S2x2048 .bf16)
    (i : S16x1x1024.Idx) : BitVec.toNat (argArr p x e n h i) < 4096 := clamp_lt _

end Cert.Proof.Tile

end
-- ==== Proof.Main.lean ====
module

public import proofs.«01_k».proof.Proof.Tasks
public import proofs.«01_k».proof.Proof.Host
public import proofs.«01_k».proof.Proof.Blocks
public import Idealize.ShloMosaic.Lib.StableHlo.RunRead
public import Idealize.ShloMosaic.Lib.SparseCore.Quiescent

@[expose] public section

noncomputable section

namespace Cert.Proof.Tile

open Cert.KernelIdeal Cert.KernelIdeal.Gen

open Idealize.ShloMosaic
open Idealize.ShloMosaic.TcCoe
open Idealize.ShloMosaic.SparseCore.Cfg (HIx)
open Idealize.ShloMosaic.StableHlo (seq after held launchContents)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The ghost state -/

/-- The handshakes' part and the pipelines' part of the ghost state. -/
abbrev EH : Emb UH (MT nD τ sig (HIx 2) (Elt F) ℕ UU ℕ) := embL
abbrev EP : Emb UP (MT nD τ sig (HIx 2) (Elt F) ℕ UU ℕ) := (Emb.inl : Emb UP (UP × Counters)).trans embR

/-- Each pipeline's ghost cells and tokens on a device. -/
abbrev ghost [FloatOps F] (p : Fin 2) (d : Dev nD) : sProp 𝕄 :=
  iprop(Pipeline.cellsGhost (Pipeline.pin (pcfgs (F := F)) adm) EP p d ∗ Pipeline.toksInit (Pipeline.pin (pcfgs (F := F)) adm) EP p d)

theorem cells_inj : Function.Injective (Pipeline.cellOf (nD := nD) (τ := τ) (Pipeline.pin (pcfgs (F := F)) adm)) := cellOf_inj

def u₀ : UU := (initOf (K (F := F)).hsCells (K (F := F)).hsToks,
  initOf (Pipeline.cells (Pipeline.pin (pcfgs (F := F)) adm) cells_inj) (Pipeline.launchToks (Pipeline.pin (pcfgs (F := F)) adm) cells_inj), 1)

theorem bigSep_emp' {I : Type} (s : Finset I) : (bigSep s fun _ => iprop(emp)) = (iprop(emp) : sProp 𝕄) := bigSep_emp_const s

theorem hu₀ [FloatOps F] (Vl : Vals F) : (ownU (u₀ (F := F)) : sProp 𝕄)
    ⊢ |={Set.univ}=> iprop(BI.own (EH (initOf (K (F := F)).hsCells (K (F := F)).hsToks)) ∗ (bigSep Finset.univ fun d : Dev nD => iprop(ghost 0 d ∗ ghost 1 d))
        ∗ bigSep Finset.univ fun thr : Thread nD τ => bigSep Finset.univ fun q : Fin 2 => (P Vl).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  imod (Pipeline.fund_ghost (Pipeline.pin (pcfgs (F := F)) adm) (EP (F := F)) cells_inj) $$ HP with ⟨Hc, Ht⟩
  imodintro
  isplitl [HH]; · iexact HH
  isplitl [Hc Ht]
  · iapply (Entails.of_eq (show iprop((bigSep Finset.univ fun c : Dev nD => bigSep Finset.univ fun p : Fin 2 => Pipeline.cellsGhost (Pipeline.pin (pcfgs (F := F)) adm) EP p c)
        ∗ bigSep Finset.univ fun c : Dev nD => bigSep Finset.univ fun p : Fin 2 => Pipeline.toksInit (Pipeline.pin (pcfgs (F := F)) adm) EP p c)
        = bigSep Finset.univ fun d : Dev nD => iprop(ghost 0 d ∗ ghost 1 d) from by
      rw [← bigSep_sep']
      refine bigSep_congr fun d _ => ?_
      rw [← bigSep_sep', bigSep_univ_two]))
    isplitl [Hc] <;> iassumption
  rw [show (bigSep Finset.univ fun thr : Thread nD τ => bigSep Finset.univ fun q : Fin 2 => (P Vl).x q thr) = bigSep Finset.univ fun _ => iprop(emp) from
    bigSep_congr fun _ _ => bigSep_emp' _, bigSep_emp']
  iempintro

/-! ## One search on the TensorCore between the calls -/

/-- What the TensorCore owes before call `n`, and the waits it may have recorded. -/
def oweAt (n : ℕ) : Owe F where
  O d := (K (F := F)).Otc d n
  B d := {p | (K (F := F)).lev (SparseCore.T d, p.1) p.2 ≤ 8 * n}
  hO d g := by
    by_contra h
    have := (K (F := F)).lev_of_Otc_pos (Nat.pos_of_ne_zero h)
    rw [SparseCore.Cfg.lev_none] at this
    exact Nat.not_succ_le_zero _ this
  hB d s := by
    show (K (F := F)).lev _ none ≤ _
    rw [SparseCore.Cfg.lev_none]; exact Nat.zero_le _

section Run

variable [FloatOps F] [∀ e, Nonempty (Elt F e)]

/-- Search `p` before call `n`, as `@main` runs it: the unscoped buffers go from a valuation to the one after the search. -/
theorem region_run (Vl : Vals F) (κ : GSem nD τ sig → ℕ) (p : Fin 2) (n : ℕ) (W : Dev nD → Valuation τ sig (Elt F)) (d : Dev nD) {β : Type}
    (k : PUnit → Prog (TpuEff nD τ sig (Elt F) (SparseCore.Sig (ΛP (F := F)) 2) .tc) β) (Q : β → sProp 𝕄) :
    iprop((K (F := F)).ctx EH (P Vl) κ ∗ (K (F := F)).tcSt EH d n ∗ boundary (SparseCore.T d) ∗ held (SparseCore.T d) (Pipeline.ucRefs τ sig) (W d) ∗ ghost p d
        ∗ ((K (F := F)).tcSt EH d n -∗ boundary (SparseCore.T d) -∗ held (SparseCore.T d) (Pipeline.ucRefs τ sig) (aft (oweAt n) W p d)
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ
          (Prog.lift (.customCall (SparseCore.inner (Pipeline.entry p)) ()) >>= k) Q := by
  rw [wp_bind]
  unfold SparseCore.Cfg.tcSt
  iintro ⟨#Hctx, ⟨⟨%Wd, %hW, HO⟩, Hst⟩, Hb, Hh, ⟨Hc, Ht⟩, Hk⟩
  iapply ((K (F := F)).wp_liftProg (D := D (F := F)) (𝒱 := 𝒱) (SparseCore.T d) Set.univ none (Prog.lift (.customCall (Pipeline.entry p) ())))
  iapply (Pipeline.RegionSeg.wp (pcfgs (F := F)) adm (pdats (oweAt n) W) none cells_inj EP defs₀ 𝒱₀ (K (F := F)).L (K (F := F)).lev (reg (oweAt n) W p) d none
    (by intros; contradiction) (fun x => .ret x))
  isplitr [Hb Hh HO Hc Ht]
  · iintro ⟨Hb, Hp⟩
    ihave Hp := (Entails.of_eq (show (reg (oweAt n) W p).post d = iprop(held (SparseCore.T d) (Pipeline.ucRefs τ sig) (aft (oweAt n) W p d) ∗ Owed (oweAt n) d) from rfl)) $$ Hp
    icases Hp with ⟨Hh, ⟨%Wd', %hW', HO⟩⟩
    rw [wp_ret]
    imodintro
    ispecialize Hk $$ [HO Hst]
    · isplitl [HO]
      · iexists Wd'; isplitr; · ipureintro; exact hW'
        iexact HO
      iexact Hst
    iapply Hk $$ Hb
    iexact Hh
  isplitl [Hb]; · iexact Hb
  isplitl [Hh HO]
  · iapply (Entails.of_eq (show iprop(held (SparseCore.T d) (Pipeline.ucRefs τ sig) (W d) ∗ Owed (oweAt n) d) = (reg (oweAt n) W p).pre d from rfl))
    isplitl [Hh]; · iexact Hh
    iexists Wd; isplitr; · ipureintro; exact hW
    iexact HO
  isplitr
  · iapply ((K (F := F)).ctx_levAts κ); iexact Hctx
  isplitl [Hc] <;> iassumption

omit [FloatOps F] [∀ e, Nonempty (Elt F e)] in
/-- Three buffers out of a set that holds them, and the rest. -/
theorem held_three (d : Dev nD) (S : Finset (DevRef τ sig)) (V : Valuation τ sig (Elt F)) (a b c : Ref sig .tc)
    (hS : ({Proc.devRef .tc a, Proc.devRef .tc b, Proc.devRef .tc c} : Finset (DevRef τ sig)) ⊆ S) (hab : a ≠ b) (hac : a ≠ c) (hbc : b ≠ c) :
    (held (SparseCore.T d) S V : sProp 𝕄)
      = iprop(((tL d a ↦{fullShare} V (Proc.devRef .tc a)) ∗ (tL d b ↦{fullShare} V (Proc.devRef .tc b)) ∗ (tL d c ↦{fullShare} V (Proc.devRef .tc c)))
          ∗ held (SparseCore.T d) (S \ {Proc.devRef .tc a, Proc.devRef .tc b, Proc.devRef .tc c}) V) := by
  have inj := Proc.devRef_injective (τ := τ) (sig := sig) (.tc : Proc τ)
  rw [StableHlo.held_sub_split (SparseCore.T d) hS V]
  congr 1
  unfold held
  rw [SparseCore.bigSep_insert' (by simp only [Finset.mem_insert, Finset.mem_singleton, inj.eq_iff]; tauto),
    SparseCore.bigSep_insert' (by simp only [Finset.mem_singleton, inj.eq_iff]; exact hbc), bigSep_singleton]

/-- Call `q`, as `@main` runs it: of the unscoped buffers only the call's output changes. -/
theorem call_run (Vl : Vals F) (κ : GSem nD τ sig → ℕ) (q : Fin 2) (d : Dev nD) (V : Valuation τ sig (Elt F)) (a b c : Ref sig .tc)
    (hS : ({Proc.devRef .tc a, Proc.devRef .tc b, Proc.devRef .tc c} : Finset (DevRef τ sig)) ⊆ Pipeline.ucRefs τ sig) (hab : a ≠ b) (hac : a ≠ c) (hbc : b ≠ c)
    (f : Buf (Elt F) (tL d c)) (R : sProp 𝕄)
    (hst : iprop((tL d a ↦{fullShare} V (Proc.devRef .tc a)) ∗ (tL d b ↦{fullShare} V (Proc.devRef .tc b)) ∗ (tL d c ↦{fullShare} V (Proc.devRef .tc c)))
      = iprop(R ∗ bigSep Finset.univ fun i : Fin ((K (F := F)).nCore q) => (P Vl).st q d i))
    (hdn : iprop((tL d a ↦{fullShare} V (Proc.devRef .tc a)) ∗ (tL d b ↦{fullShare} V (Proc.devRef .tc b)) ∗ (tL d c ↦{fullShare} f))
      = iprop(R ∗ bigSep Finset.univ fun i : Fin ((K (F := F)).nCore q) => (P Vl).dn q d i)) {β : Type}
    (k : PUnit → Prog (TpuEff nD τ sig (Elt F) (SparseCore.Sig (ΛP (F := F)) 2) .tc) β) (Q : β → sProp 𝕄) :
    iprop((K (F := F)).ctx EH (P Vl) κ ∗ (K (F := F)).tcSt EH d q.val ∗ held (SparseCore.T d) (Pipeline.ucRefs τ sig) V
        ∗ ((K (F := F)).tcSt EH d (q.val + 1) -∗ held (SparseCore.T d) (Pipeline.ucRefs τ sig) (Function.update V (Proc.devRef .tc c) f)
            -∗ wp frame (wpE ((K (F := F)).defs (D (F := F))) 𝒱 (SparseCore.T d) none) Set.univ (k ⟨⟩) Q))
      ⊢ wp frame (wpE ((K (F := F)).defs (D (F := F))) 𝒱 (SparseCore.T d) none) Set.univ ((K (F := F)).run d q >>= k) Q := by
  have inj := Proc.devRef_injective (τ := τ) (sig := sig) (.tc : Proc τ)
  have hup : (held (SparseCore.T d) (Pipeline.ucRefs τ sig) (Function.update V (Proc.devRef .tc c) f) : sProp 𝕄)
      = iprop(((tL d a ↦{fullShare} V (Proc.devRef .tc a)) ∗ (tL d b ↦{fullShare} V (Proc.devRef .tc b)) ∗ (tL d c ↦{fullShare} f))
          ∗ held (SparseCore.T d) (Pipeline.ucRefs τ sig \ {Proc.devRef .tc a, Proc.devRef .tc b, Proc.devRef .tc c}) V) := by
    rw [held_three d _ _ a b c hS hab hac hbc, Function.update_self, Function.update_of_ne (fun e => hac (inj e)), Function.update_of_ne (fun e => hbc (inj e))]
    congr 1
    refine StableHlo.held_congr _ fun r hr => Function.update_of_ne (fun e => ?_) _ _
    subst e
    simp at hr
  rw [wp_bind, held_three d _ V a b c hS hab hac hbc, hup, hst, hdn]
  iintro ⟨#Hctx, Hst, ⟨⟨HR, Hp⟩, Hr⟩, Hk⟩
  iapply ((K (F := F)).wp_run (D (F := F)) 𝒱 (EH := EH) (P := P Vl) κ d q) $$ [Hst Hp HR Hr Hk]
  isplitr; · iexact Hctx
  isplitl [Hst]; · iexact Hst
  isplitl [Hp]; · iexact Hp
  iintro ⟨Hst, Hdn⟩
  iapply Hk $$ Hst
  isplitl [HR Hdn]
  · isplitl [HR] <;> iassumption
  iexact Hr

end Run

/-! ## The valuations along `@main` -/

section Chain

variable [FloatOps F] (m : (ℓ : Loc nD τ sig) → Buf (Elt F) ℓ)

def W1 (d : Dev nD) : Valuation τ sig (Elt F) := after ops0 (launchContents m d)
def W2 (d : Dev nD) : Valuation τ sig (Elt F) := aft (oweAt 0) (W1 m) 0 d
def W3 (d : Dev nD) : Valuation τ sig (Elt F) := after ops1 (W2 m d)
/-- The first gather's rows. -/
def g0 (d : Dev nD) : S16384x128.Idx → Elt F .f32 := gatAll (W3 m d (Proc.devRef .tc main_v14)) (W3 m d (Proc.devRef .tc main_v13))
def W4 (d : Dev nD) : Valuation τ sig (Elt F) := Function.update (W3 m d) (Proc.devRef .tc main_v15) (g0 m d)
def W5 (d : Dev nD) : Valuation τ sig (Elt F) := after ops2 (W4 m d)
def W6 (d : Dev nD) : Valuation τ sig (Elt F) := aft (oweAt 1) (W5 m) 1 d
def W7 (d : Dev nD) : Valuation τ sig (Elt F) := after ops3 (W6 m d)
/-- The second gather's rows. -/
def g1 (d : Dev nD) : S16384x128.Idx → Elt F .f32 := gatAll (W7 m d (Proc.devRef .tc main_v24)) (W7 m d (Proc.devRef .tc main_v23))
def W8 (d : Dev nD) : Valuation τ sig (Elt F) := Function.update (W7 m d) (Proc.devRef .tc main_v25) (g1 m d)
def W9 (d : Dev nD) : Valuation τ sig (Elt F) := after ops4 (W8 m d)

/-- The first list is the first search's indices in a row. -/
theorem v13_eq (d : Dev nD) : W3 m d (Proc.devRef .tc main_v13)
    = shapeCast S1x16384 (argArr 0 (W1 m d (Proc.devRef .tc main_v11)) (W1 m d (Proc.devRef .tc main_v7)) (W1 m d (Proc.devRef .tc main_v10)) (W1 m d (Proc.devRef .tc main_v6)))
        shapeCasts_S16x1x1024_S1x16384 := by
  rw [← aft0_out (oweAt 0) (W1 m) d]
  show after ops1 (W2 m d) (Proc.devRef .tc main_v13) = _
  unfold ops1
  after_reads_simp
  rfl

theorem v23_eq (d : Dev nD) : W7 m d (Proc.devRef .tc main_v23)
    = shapeCast S1x16384 (argArr 1 (W5 m d (Proc.devRef .tc main_v21)) (W5 m d (Proc.devRef .tc main_v17)) (W5 m d (Proc.devRef .tc main_v20)) (W5 m d (Proc.devRef .tc main_v6)))
        shapeCasts_S16x1x1024_S1x16384 := by
  rw [← aft1_out (oweAt 1) (W5 m) d]
  show after ops3 (W6 m d) (Proc.devRef .tc main_v23) = _
  unfold ops3
  after_reads_simp
  rfl

theorem v13_lt (d : Dev nD) (j : S1x16384.Idx) : BitVec.toNat ((W3 m d (Proc.devRef .tc main_v13) : S1x16384.Idx → BitVec 32) j) < 4096 := by
  rw [v13_eq]
  exact argArr_lt _ _ _ _ _ _

theorem v23_lt (d : Dev nD) (j : S1x16384.Idx) : BitVec.toNat ((W7 m d (Proc.devRef .tc main_v23) : S1x16384.Idx → BitVec 32) j) < 4096 := by
  rw [v23_eq]
  exact argArr_lt _ _ _ _ _ _

/-- What the two calls find. -/
def vals : Vals F where
  t q d := match q with | 0 => W3 m d (Proc.devRef .tc main_v14) | 1 => W7 m d (Proc.devRef .tc main_v24)
  x q d := match q with | 0 => W3 m d (Proc.devRef .tc main_v13) | 1 => W7 m d (Proc.devRef .tc main_v23)
  o q d := match q with | 0 => W3 m d (Proc.devRef .tc main_v15) | 1 => W7 m d (Proc.devRef .tc main_v25)
  hx q d j := by
    match q with
    | 0 => exact v13_lt m d j
    | 1 => exact v23_lt m d j

end Chain

section Main

variable [FloatOps F] [∀ e, Nonempty (Elt F e)] (m : (ℓ : Loc nD τ sig) → Buf (Elt F) ℓ) (ρ : Dev nD → PrngReg)

/-- What `@main` ends with: every unscoped buffer at the last valuation. -/
abbrev FIN (d : Dev nD) : sProp 𝕄 := held (SparseCore.T d) (Pipeline.ucRefs τ sig) (W9 m d)

set_option maxHeartbeats 2000000 in
theorem hmain (κ : GSem nD τ sig → ℕ) (d : Dev nD) :
    iprop((K (F := F)).ctx EH (P (vals m)) κ ∗ (K (F := F)).tcSt EH d 0 ∗ (K (F := F)).tcRes m ρ d ∗ (ghost 0 d ∗ ghost 1 d))
      ⊢ wp frame (wpE ((K (F := F)).defs (D (F := F))) 𝒱 (SparseCore.T d) none) Set.univ (main d)
          fun _ => iprop((K (F := F)).tcSt EH d 2 ∗ FIN m d ∗ (K (F := F)).tcEnd d) := by
  obtain ⟨s0, s1, s2, s3, s4⟩ := host_ops (F := F)
  obtain ⟨f0, f1, f2, f3, f4⟩ := host_fresh (F := F)
  rw [main_eq]
  unfold SparseCore.Cfg.tcRes SparseCore.Cfg.tcEnd
  iintro ⟨#Hctx, Hst, ⟨Hb, Hu, Hts, -⟩, ⟨Hg0, Hg1⟩⟩
  ihave Hh := (Entails.of_eq (Pipeline.unscopedBufs_held d (launchContents m d))) $$ Hu
  iapply (StableHlo.wp_seq (defs := (K (F := F)).defs (D (F := F))) 𝒱 none Set.univ d (Pipeline.ucRefs τ sig) _ ops0 s0 f0 (launchContents m d)) $$ [Hb Hh]
  · isplitl [Hb] <;> iassumption
  iintro ⟨Hb, Hh⟩
  iapply (region_run (vals m) κ 0 0 (W1 m) d)
  isplitr; · iexact Hctx
  isplitl [Hst]; · iexact Hst
  isplitl [Hb]; · iexact Hb
  isplitl [Hh]; · iexact Hh
  isplitl [Hg0]; · iexact Hg0
  iintro Hst Hb Hh
  iapply (StableHlo.wp_seq (defs := (K (F := F)).defs (D (F := F))) 𝒱 none Set.univ d (Pipeline.ucRefs τ sig) _ ops1 s1 f1 (W2 m d)) $$ [Hb Hh]
  · isplitl [Hb]; · iexact Hb
    iexact Hh
  iintro ⟨Hb, Hh⟩
  iapply (call_run (vals m) κ 0 d (W3 m d) main_v14 main_v13 main_v15 (by decide) (by decide) (by decide) (by decide) (g0 m d) _
    (call0_eq (vals m) d _) (call0_eq (vals m) d _))
  isplitr; · iexact Hctx
  isplitl [Hst]; · iexact Hst
  isplitl [Hh]; · iexact Hh
  iintro Hst Hh
  iapply (StableHlo.wp_seq (defs := (K (F := F)).defs (D (F := F))) 𝒱 none Set.univ d (Pipeline.ucRefs τ sig) _ ops2 s2 f2 (W4 m d)) $$ [Hb Hh]
  · isplitl [Hb]; · iexact Hb
    iexact Hh
  iintro ⟨Hb, Hh⟩
  iapply (region_run (vals m) κ 1 1 (W5 m) d)
  isplitr; · iexact Hctx
  isplitl [Hst]; · iexact Hst
  isplitl [Hb]; · iexact Hb
  isplitl [Hh]; · iexact Hh
  isplitl [Hg1]; · iexact Hg1
  iintro Hst Hb Hh
  iapply (StableHlo.wp_seq (defs := (K (F := F)).defs (D (F := F))) 𝒱 none Set.univ d (Pipeline.ucRefs τ sig) _ ops3 s3 f3 (W6 m d)) $$ [Hb Hh]
  · isplitl [Hb]; · iexact Hb
    iexact Hh
  iintro ⟨Hb, Hh⟩
  iapply (call_run (vals m) κ 1 d (W7 m d) main_v24 main_v23 main_v25 (by decide) (by decide) (by decide) (by decide) (g1 m d) _
    (call1_eq (vals m) d _) (call1_eq (vals m) d _))
  isplitr; · iexact Hctx
  isplitl [Hst]; · iexact Hst
  isplitl [Hh]; · iexact Hh
  iintro Hst Hh
  iapply (StableHlo.wp_seq (defs := (K (F := F)).defs (D (F := F))) 𝒱 none Set.univ d (Pipeline.ucRefs τ sig) _ ops4 s4 f4 (W8 m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

def fq (d : Dev nD) (s' : Phys nD τ sig (Elt F)) : Prop := ∀ b ∈ Pipeline.ucRefs τ sig, s'.mem.mem (d, b) = W9 m d b

set_option maxRecDepth 16384 in
theorem hfin (d : Dev nD) (s' : Phys nD τ sig (Elt F)) : iprop(FIN m d ∗ SI s') ⊢ (⌜fq m d s'⌝ : sProp 𝕄) := by
  refine Entails.trans (forall_intro fun b => ?_) (pure_forall (φ := fun b => b ∈ Pipeline.ucRefs τ sig → s'.mem.mem (d, b) = W9 m d b)).2
  by_cases hb : b ∈ Pipeline.ucRefs τ sig
  · unfold FIN held
    rw [SparseCore.bigSep_erase' hb]
    iintro ⟨⟨Hb, -⟩, HSI⟩
    ihave H := (SI_pointsTo_agree (st := s') (ℓ := (d, b)) (I := Finset.univ) (q := fullShare) (f := W9 m d b)) $$ [HSI Hb]
    · isplitl [HSI] <;> iassumption
    icases H with %h
    ipureintro
    exact fun _ => funext fun i => h i (Finset.mem_univ i)
  · iintro -
    ipureintro
    exact fun h => absurd h hb

/-- The program's run: every unscoped buffer ends at the last valuation, every semaphore at zero. -/
theorem run_main : θ_run (Cert.KernelIdeal.defs (F := F)) (Cert.KernelIdeal.threads (F := F)) ⟨m, fun _ => 0, ρ⟩
    fun r => (∀ d : Dev nD, ∀ b ∈ Pipeline.ucRefs τ sig, r.2.mem (d, b) = W9 m d b) ∧ r.2.sem = fun _ => 0 :=
  SparseCore.Cfg.θ_run_sc_quiescent (K := K (F := F)) (D := D (F := F)) (𝒱 := 𝒱) (EH := EH) (P := P (vals m)) (A := ∅) facts v₀
    (fun q hq => match q with | 0 => nomatch hq | 1 => nomatch hq)
    (fun q _ => match q with | 0 => tileObl0 (vals m) | 1 => tileObl1 (vals m))
    (fun q _ => SparseCore.Cfg.VecSplit.of_plain (vecSplit (vals m) q))
    m ρ main (fun d => iprop(ghost 0 d ∗ ghost 1 d)) (FIN m) (u₀ (F := F)) (sep_elim_left.trans (hu₀ (vals m))) (hmain m ρ) (fq m) (hfin m) _ (fun _ h hz => ⟨h, hz⟩)

end Main

end Cert.Proof.Tile

end
-- ==== Proof.Frames.lean ====
module

public import proofs.«01_k».proof.Proof.Main

@[expose] public section

noncomputable section

namespace Cert.Proof.Tile

open Cert.KernelIdeal Cert.KernelIdeal.Gen

open Idealize.ShloMosaic
open Idealize.ShloMosaic.TcCoe
open Idealize.ShloMosaic.StableHlo (seq after held launchContents)
open Idealize.SL.Sem

variable {F : FTy → Type} [FloatOps F] (m : (ℓ : Loc nD τ sig) → Buf (Elt F) ℓ)

/-- The three arguments hold at a valuation what they held at the launch. -/
structure Args (d : Dev nD) (V : Valuation τ sig (Elt F)) : Prop where
  a0 : V (Proc.devRef .tc main_arg0) = m (d, Proc.devRef .tc main_arg0)
  a1 : V (Proc.devRef .tc main_arg1) = m (d, Proc.devRef .tc main_arg1)
  a2 : V (Proc.devRef .tc main_arg2) = m (d, Proc.devRef .tc main_arg2)

variable {m} {d : Dev nD} {V : Valuation τ sig (Elt F)}

theorem Args.ops0 (h : Args m d V) : Args m d (after ops0 V) := by
  unfold Tile.ops0 Tile.digitOps Tile.bookOps
  constructor
  · after_reads_simp; exact h.a0
  · after_reads_simp; exact h.a1
  · after_reads_simp; exact h.a2

theorem Args.ops1 (h : Args m d V) : Args m d (after ops1 V) := by
  unfold Tile.ops1
  constructor
  · after_reads_simp; exact h.a0
  · after_reads_simp; exact h.a1
  · after_reads_simp; exact h.a2

theorem Args.ops2 (h : Args m d V) : Args m d (after ops2 V) := by
  unfold Tile.ops2
  constructor
  · after_reads_simp; exact h.a0
  · after_reads_simp; exact h.a1
  · after_reads_simp; exact h.a2

theorem Args.ops3 (h : Args m d V) : Args m d (after ops3 V) := by
  unfold Tile.ops3
  constructor
  · after_reads_simp; exact h.a0
  · after_reads_simp; exact h.a1
  · after_reads_simp; exact h.a2

theorem Args.ops4 (h : Args m d V) : Args m d (after ops4 V) := by
  unfold Tile.ops4
  constructor
  · after_reads_simp; exact h.a0
  · after_reads_simp; exact h.a1
  · after_reads_simp; exact h.a2

theorem Args.upd (h : Args m d V) (r : Ref sig .tc) (f : Buf (Elt F) (tL d r)) (h0 : r ≠ main_arg0) (h1 : r ≠ main_arg1) (h2 : r ≠ main_arg2) :
    Args m d (Function.update V (Proc.devRef .tc r) f) := by
  have inj := Proc.devRef_injective (τ := τ) (sig := sig) (.tc : Proc τ)
  constructor
  · rw [Function.update_of_ne fun e => h0 (inj e).symm]; exact h.a0
  · rw [Function.update_of_ne fun e => h1 (inj e).symm]; exact h.a1
  · rw [Function.update_of_ne fun e => h2 (inj e).symm]; exact h.a2

theorem Args.aft0 (o : Owe F) (W : Dev nD → Valuation τ sig (Elt F)) (h : Args m d (W d)) : Args m d (aft o W 0 d) :=
  ⟨(aft0_keeps o W d _ (by decide)).trans h.a0, (aft0_keeps o W d _ (by decide)).trans h.a1, (aft0_keeps o W d _ (by decide)).trans h.a2⟩

theorem Args.aft1 (o : Owe F) (W : Dev nD → Valuation τ sig (Elt F)) (h : Args m d (W d)) : Args m d (aft o W 1 d) :=
  ⟨(aft1_keeps o W d _ (by decide)).trans h.a0, (aft1_keeps o W d _ (by decide)).trans h.a1, (aft1_keeps o W d _ (by decide)).trans h.a2⟩

theorem args0 (m : (ℓ : Loc nD τ sig) → Buf (Elt F) ℓ) (d : Dev nD) : Args m d (launchContents m d) := ⟨rfl, rfl, rfl⟩
theorem args1 (m : (ℓ : Loc nD τ sig) → Buf (Elt F) ℓ) (d : Dev nD) : Args m d (W1 m d) := (args0 m d).ops0
theorem args2 (m : (ℓ : Loc nD τ sig) → Buf (Elt F) ℓ) (d : Dev nD) : Args m d (W2 m d) := (args1 m d).aft0 _ _
theorem args4 (m : (ℓ : Loc nD τ sig) → Buf (Elt F) ℓ) (d : Dev nD) : Args m d (W4 m d) := (args2 m d).ops1.upd _ _ (by decide) (by decide) (by decide)
theorem args5 (m : (ℓ : Loc nD τ sig) → Buf (Elt F) ℓ) (d : Dev nD) : Args m d (W5 m d) := (args4 m d).ops2
theorem args6 (m : (ℓ : Loc nD τ sig) → Buf (Elt F) ℓ) (d : Dev nD) : Args m d (W6 m d) := (args5 m d).aft1 _ _
theorem args8 (m : (ℓ : Loc nD τ sig) → Buf (Elt F) ℓ) (d : Dev nD) : Args m d (W8 m d) := (args6 m d).ops3.upd _ _ (by decide) (by decide) (by decide)
theorem args9 (m : (ℓ : Loc nD τ sig) → Buf (Elt F) ℓ) (d : Dev nD) : Args m d (W9 m d) := (args8 m d).ops4

/-- The run, of the buffers the claims name: the arguments unchanged, the result at the last valuation. -/
theorem run_ends [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      fun r => ((∀ d : Dev nD, r.2.mem (d.tc.loc main_arg0) = m (d.tc.loc main_arg0) ∧ r.2.mem (d.tc.loc main_arg1) = m (d.tc.loc main_arg1)
          ∧ r.2.mem (d.tc.loc main_arg2) = m (d.tc.loc main_arg2)) ∧ r.2.sem = fun _ => 0)
        ∧ ∀ d : Dev nD, r.2.mem (d.tc.loc main_v32) = W9 m d (Proc.devRef .tc main_v32) := by
  refine (θ_run (Cert.KernelIdeal.defs (F := F)) _ _).mono (fun r h => ?_) (run_main m ρ)
  refine ⟨⟨fun d => ⟨?_, ?_, ?_⟩, h.2⟩, fun d => h.1 d (Proc.devRef .tc main_v32) (by decide)⟩
  · exact (h.1 d (Proc.devRef .tc main_arg0) (by decide)).trans (args9 m d).a0
  · exact (h.1 d (Proc.devRef .tc main_arg1) (by decide)).trans (args9 m d).a1
  · exact (h.1 d (Proc.devRef .tc main_arg2) (by decide)).trans (args9 m d).a2

end Cert.Proof.Tile

end
-- ==== Proof.Ref.lean ====
module

public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

noncomputable section

namespace Cert.Proof.Ref

open Cert.ReferenceIdeal Cert.ReferenceIdeal.Gen

open Idealize.ShloMosaic
open Idealize.ShloMosaic.TcCoe
open Idealize.ShloMosaic.StableHlo (seq after launchContents)
open Idealize.SL.Sem

variable {F : FTy → Type} [FloatOps F]

/-! ## The reference's operations, as lists -/

/-- The operations of the first index of the least entry of each row. -/
def argminOps (arg0 : StableHlo.TRef sig ⟨S16384x4096, .f32⟩) (φ : fn_argmin.Bufs) : List (HloOp τ sig (Elt F)) :=
   [StableHlo.TRef.nullary φ.v0 (iotaInDim S16384x4096 32 1),
    StableHlo.TRef.nullary φ.cst (constant S_ .f32 0x7F800000#32),
    StableHlo.TRef.nullary φ.c (constantI S_ 32 0#32),
    StableHlo.TRef.quaternary arg0 φ.v0 φ.cst φ.c φ.v1_0 (fun x y u v j => (Host.argReduce reducer_argmin_f32_i32 x y u v reducesTo_S16384x4096_S16384_d1 h_S_ j).1),
    StableHlo.TRef.quaternary arg0 φ.v0 φ.cst φ.c φ.v1_1 (fun x y u v j => (Host.argReduce reducer_argmin_f32_i32 x y u v reducesTo_S16384x4096_S16384_d1 h_S_ j).2)]

/-- The operation of a selection. -/
def whereOps (arg0 : StableHlo.TRef sig ⟨S16384, .i1⟩) (arg1 : StableHlo.TRef sig ⟨S16384, .i32⟩) (arg2 : StableHlo.TRef sig ⟨S16384, .i32⟩) (φ : fn_where.Bufs) : List (HloOp τ sig (Elt F)) :=
   [StableHlo.TRef.ternary arg0 arg1 arg2 φ.v0 select]

/-- The operations of the rows listed. -/
def takeOps (arg0 : StableHlo.TRef sig ⟨S4096x32, .f32⟩) (arg1 : StableHlo.TRef sig ⟨S16384, .i32⟩) (φ : fn_take.Bufs) : List (HloOp τ sig (Elt F)) :=
   [StableHlo.TRef.nullary φ.c (constantI S_ 32 0#32),
    StableHlo.TRef.unary φ.c φ.v0 (broadcastInDim S16384 ![] bcast_S_S16384),
    StableHlo.TRef.binary arg1 φ.v0 φ.v1 (cmpi .slt),
    StableHlo.TRef.nullary φ.c_0 (constantI S_ 32 4096#32),
    StableHlo.TRef.unary φ.c_0 φ.v2 (broadcastInDim S16384 ![] bcast_S_S16384),
    StableHlo.TRef.binary arg1 φ.v2 φ.v3 addi] ++
   whereOps φ.v1 φ.v3 arg1 φ.call0 ++
   [StableHlo.TRef.unary φ.call0.v0 φ.v5 (broadcastInDim S16384x1 ![0] bcast_S16384_S16384x1_0),
    StableHlo.TRef.nullary φ.c_1 (constantI S1 32 4095#32),
    StableHlo.TRef.nullary φ.c_2 (constantI S_ 32 0#32),
    StableHlo.TRef.unary φ.c_2 φ.v6 (broadcastInDim S16384x1 ![] bcast_S_S16384x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S16384x1 ![0, 1] bcast_S1x1_S16384x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S16384x1_S16384_d1 h_S_),
    StableHlo.TRef.binary arg0 φ.v5 φ.v13 (fun x i => Host.gather gather_S4096x32_S16384x1_S16384x32_1_0_n_n_0_1_132 x i),
    StableHlo.TRef.unary φ.v12 φ.v14 (broadcastInDim S16384x32 ![0] bcast_S16384_S16384x32_0),
    StableHlo.TRef.nullary φ.cst (constant S_ .f32 0x7FC00000#32),
    StableHlo.TRef.unary φ.cst φ.v15 (broadcastInDim S16384x32 ![] bcast_S_S16384x32),
    StableHlo.TRef.ternary φ.v14 φ.v13 φ.v15 φ.v16 select]

/-- All but the last. -/
def preOps : List (HloOp τ sig (Elt F)) :=
   [StableHlo.unary main_arg0 main_v0 ((extractStridedSlice S16x32x32x32 ![0, 0, 0, 0] · slices_S16x64x32x32_S16x32x32x32_0_0_0_0) : (⟨S16x64x32x32, .f32⟩ : BufTy).Contents (Elt F) → (⟨S16x32x32x32, .f32⟩ : BufTy).Contents (Elt F)),
    StableHlo.unary main_arg0 main_v1 ((extractStridedSlice S16x32x32x32 ![0, 32, 0, 0] · slices_S16x64x32x32_S16x32x32x32_0_32_0_0) : (⟨S16x64x32x32, .f32⟩ : BufTy).Contents (Elt F) → (⟨S16x32x32x32, .f32⟩ : BufTy).Contents (Elt F)),
    StableHlo.unary main_v0 main_v2 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
    StableHlo.reshape main_v2 main_v3 (rfl : (.f32 : EltTy) = .f32) shapeCasts_S16x32x32x32_S16384x32,
    StableHlo.binary main_v3 main_v3 main_v4 (mulf : (⟨S16384x32, .f32⟩ : BufTy).Contents (Elt F) → (⟨S16384x32, .f32⟩ : BufTy).Contents (Elt F) → (⟨S16384x32, .f32⟩ : BufTy).Contents (Elt F)),
    StableHlo.nullary main_cst (constant S_ .f32 0x00000000#32),
    StableHlo.binary main_v4 main_cst main_v5 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v5 main_v6 (broadcastInDim S16384x1 ![0] bcast_S16384_S16384x1_0 : (⟨S16384, .f32⟩ : BufTy).Contents (Elt F) → (⟨S16384x1, .f32⟩ : BufTy).Contents (Elt F)),
    StableHlo.unary main_arg1 main_v7 ((transpose S32x4096 [1, 0] · transposes_S4096x32_S32x4096_1_0) : (⟨S4096x32, .f32⟩ : BufTy).Contents (Elt F) → (⟨S32x4096, .f32⟩ : BufTy).Contents (Elt F)),
    StableHlo.binary main_v3 main_v7 main_v8 ((fun l r => Host.dotGeneral dot_S16384x32_S32x4096_S16384x4096_1_0_0_1_n_n none l r) : (⟨S16384x32, .f32⟩ : BufTy).Contents (Elt F) → (⟨S32x4096, .f32⟩ : BufTy).Contents (Elt F) → (⟨S16384x4096, .f32⟩ : BufTy).Contents (Elt F)),
    StableHlo.nullary main_cst_0 (constant S_ .f32 0x40000000#32),
    StableHlo.unary main_cst_0 main_v9 (broadcastInDim S16384x4096 ![] bcast_S_S16384x4096 : (⟨S_, .f32⟩ : BufTy).Contents (Elt F) → (⟨S16384x4096, .f32⟩ : BufTy).Contents (Elt F)),
    StableHlo.binary main_v9 main_v8 main_v10 (mulf : (⟨S16384x4096, .f32⟩ : BufTy).Contents (Elt F) → (⟨S16384x4096, .f32⟩ : BufTy).Contents (Elt F) → (⟨S16384x4096, .f32⟩ : BufTy).Contents (Elt F)),
    StableHlo.unary main_v6 main_v11 (broadcastInDim S16384x4096 ![0, 1] bcast_S16384x1_S16384x4096_0_1 : (⟨S16384x1, .f32⟩ : BufTy).Contents (Elt F) → (⟨S16384x4096, .f32⟩ : BufTy).Contents (Elt F)),
    StableHlo.binary main_v11 main_v10 main_v12 (subf : (⟨S16384x4096, .f32⟩ : BufTy).Contents (Elt F) → (⟨S16384x4096, .f32⟩ : BufTy).Contents (Elt F) → (⟨S16384x4096, .f32⟩ : BufTy).Contents (Elt F)),
    StableHlo.binary main_arg1 main_arg1 main_v13 (mulf : (⟨S4096x32, .f32⟩ : BufTy).Contents (Elt F) → (⟨S4096x32, .f32⟩ : BufTy).Contents (Elt F) → (⟨S4096x32, .f32⟩ : BufTy).Contents (Elt F)),
    StableHlo.nullary main_cst_1 (constant S_ .f32 0x00000000#32),
    StableHlo.binary main_v13 main_cst_1 main_v14 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    StableHlo.unary main_v14 main_v15 (broadcastInDim S1x4096 ![1] bcast_S4096_S1x4096_1 : (⟨S4096, .f32⟩ : BufTy).Contents (Elt F) → (⟨S1x4096, .f32⟩ : BufTy).Contents (Elt F)),
    StableHlo.unary main_v15 main_v16 (broadcastInDim S16384x4096 ![0, 1] bcast_S1x4096_S16384x4096_0_1 : (⟨S1x4096, .f32⟩ : BufTy).Contents (Elt F) → (⟨S16384x4096, .f32⟩ : BufTy).Contents (Elt F)),
    StableHlo.binary main_v12 main_v16 main_v17 (addf : (⟨S16384x4096, .f32⟩ : BufTy).Contents (Elt F) → (⟨S16384x4096, .f32⟩ : BufTy).Contents (Elt F) → (⟨S16384x4096, .f32⟩ : BufTy).Contents (Elt F))] ++
   argminOps (.of main_v17) main_call0 ++
   takeOps (.of main_arg1) (.of main_v18) main_call1 ++
   [StableHlo.reshape main_v19 main_v20 (rfl : (.f32 : EltTy) = .f32) shapeCasts_S16384x32_S16x32x32x32,
    StableHlo.unary main_v20 main_v21 ((transpose S16x32x32x32 [0, 3, 1, 2] · transposes_S16x32x32x32_S16x32x32x32_0_3_1_2) : (⟨S16x32x32x32, .f32⟩ : BufTy).Contents (Elt F) → (⟨S16x32x32x32, .f32⟩ : BufTy).Contents (Elt F)),
    StableHlo.binary main_v21 main_v0 main_v22 (subf : (⟨S16x32x32x32, .f32⟩ : BufTy).Contents (Elt F) → (⟨S16x32x32x32, .f32⟩ : BufTy).Contents (Elt F) → (⟨S16x32x32x32, .f32⟩ : BufTy).Contents (Elt F)),
    StableHlo.binary main_v0 main_v22 main_v23 (addf : (⟨S16x32x32x32, .f32⟩ : BufTy).Contents (Elt F) → (⟨S16x32x32x32, .f32⟩ : BufTy).Contents (Elt F) → (⟨S16x32x32x32, .f32⟩ : BufTy).Contents (Elt F)),
    StableHlo.unary main_v1 main_v24 ((transpose S16x32x32x32 [0, 2, 3, 1] · transposes_S16x32x32x32_S16x32x32x32_0_2_3_1) : (⟨S16x32x32x32, .f32⟩ : BufTy).Contents (Elt F) → (⟨S16x32x32x32, .f32⟩ : BufTy).Contents (Elt F)),
    StableHlo.reshape main_v24 main_v25 (rfl : (.f32 : EltTy) = .f32) shapeCasts_S16x32x32x32_S16384x32,
    StableHlo.binary main_v25 main_v25 main_v26 (mulf : (⟨S16384x32, .f32⟩ : BufTy).Contents (Elt F) → (⟨S16384x32, .f32⟩ : BufTy).Contents (Elt F) → (⟨S16384x32, .f32⟩ : BufTy).Contents (Elt F)),
    StableHlo.nullary main_cst_2 (constant S_ .f32 0x00000000#32),
    StableHlo.binary main_v26 main_cst_2 main_v27 ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F)),
    StableHlo.unary main_v27 main_v28 (broadcastInDim S16384x1 ![0] bcast_S16384_S16384x1_0 : (⟨S16384, .f32⟩ : BufTy).Contents (Elt F) → (⟨S16384x1, .f32⟩ : BufTy).Contents (Elt F)),
    StableHlo.unary main_arg2 main_v29 ((transpose S32x4096 [1, 0] · transposes_S4096x32_S32x4096_1_0) : (⟨S4096x32, .f32⟩ : BufTy).Contents (Elt F) → (⟨S32x4096, .f32⟩ : BufTy).Contents (Elt F)),
    StableHlo.binary main_v25 main_v29 main_v30 ((fun l r => Host.dotGeneral dot_S16384x32_S32x4096_S16384x4096_1_0_0_1_n_n none l r) : (⟨S16384x32, .f32⟩ : BufTy).Contents (Elt F) → (⟨S32x4096, .f32⟩ : BufTy).Contents (Elt F) → (⟨S16384x4096, .f32⟩ : BufTy).Contents (Elt F)),
    StableHlo.nullary main_cst_3 (constant S_ .f32 0x40000000#32),
    StableHlo.unary main_cst_3 main_v31 (broadcastInDim S16384x4096 ![] bcast_S_S16384x4096 : (⟨S_, .f32⟩ : BufTy).Contents (Elt F) → (⟨S16384x4096, .f32⟩ : BufTy).Contents (Elt F)),
    StableHlo.binary main_v31 main_v30 main_v32 (mulf : (⟨S16384x4096, .f32⟩ : BufTy).Contents (Elt F) → (⟨S16384x4096, .f32⟩ : BufTy).Contents (Elt F) → (⟨S16384x4096, .f32⟩ : BufTy).Contents (Elt F)),
    StableHlo.unary main_v28 main_v33 (broadcastInDim S16384x4096 ![0, 1] bcast_S16384x1_S16384x4096_0_1 : (⟨S16384x1, .f32⟩ : BufTy).Contents (Elt F) → (⟨S16384x4096, .f32⟩ : BufTy).Contents (Elt F)),
    StableHlo.binary main_v33 main_v32 main_v34 (subf : (⟨S16384x4096, .f32⟩ : BufTy).Contents (Elt F) → (⟨S16384x4096, .f32⟩ : BufTy).Contents (Elt F) → (⟨S16384x4096, .f32⟩ : BufTy).Contents (Elt F)),
    StableHlo.binary main_arg2 main_arg2 main_v35 (mulf : (⟨S4096x32, .f32⟩ : BufTy).Contents (Elt F) → (⟨S4096x32, .f32⟩ : BufTy).Contents (Elt F) → (⟨S4096x32, .f32⟩ : BufTy).Contents (Elt F)),
    StableHlo.nullary main_cst_4 (constant S_ .f32 0x00000000#32),
    StableHlo.binary main_v35 main_cst_4 main_v36 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    StableHlo.unary main_v36 main_v37 (broadcastInDim S1x4096 ![1] bcast_S4096_S1x4096_1 : (⟨S4096, .f32⟩ : BufTy).Contents (Elt F) → (⟨S1x4096, .f32⟩ : BufTy).Contents (Elt F)),
    StableHlo.unary main_v37 main_v38 (broadcastInDim S16384x4096 ![0, 1] bcast_S1x4096_S16384x4096_0_1 : (⟨S1x4096, .f32⟩ : BufTy).Contents (Elt F) → (⟨S16384x4096, .f32⟩ : BufTy).Contents (Elt F)),
    StableHlo.binary main_v34 main_v38 main_v39 (addf : (⟨S16384x4096, .f32⟩ : BufTy).Contents (Elt F) → (⟨S16384x4096, .f32⟩ : BufTy).Contents (Elt F) → (⟨S16384x4096, .f32⟩ : BufTy).Contents (Elt F))] ++
   argminOps (.of main_v39) main_call2 ++
   takeOps (.of main_arg2) (.of main_v40) main_call3 ++
   [StableHlo.reshape main_v41 main_v42 (rfl : (.f32 : EltTy) = .f32) shapeCasts_S16384x32_S16x32x32x32,
    StableHlo.unary main_v42 main_v43 ((transpose S16x32x32x32 [0, 3, 1, 2] · transposes_S16x32x32x32_S16x32x32x32_0_3_1_2) : (⟨S16x32x32x32, .f32⟩ : BufTy).Contents (Elt F) → (⟨S16x32x32x32, .f32⟩ : BufTy).Contents (Elt F)),
    StableHlo.binary main_v43 main_v1 main_v44 (subf : (⟨S16x32x32x32, .f32⟩ : BufTy).Contents (Elt F) → (⟨S16x32x32x32, .f32⟩ : BufTy).Contents (Elt F) → (⟨S16x32x32x32, .f32⟩ : BufTy).Contents (Elt F)),
    StableHlo.binary main_v1 main_v44 main_v45 (addf : (⟨S16x32x32x32, .f32⟩ : BufTy).Contents (Elt F) → (⟨S16x32x32x32, .f32⟩ : BufTy).Contents (Elt F) → (⟨S16x32x32x32, .f32⟩ : BufTy).Contents (Elt F))]

/-- The two halves, side by side. -/
def lastOp : HloOp τ sig (Elt F) := StableHlo.binary main_v23 main_v45 main_v46 ((fun a b => concatenate S16x64x32x32 1 [⟨S16x32x32x32, a⟩, ⟨S16x32x32x32, b⟩] concatenates_S16x32x32x32_S16x32x32x32_S16x64x32x32_d1) : (⟨S16x32x32x32, .f32⟩ : BufTy).Contents (Elt F) → (⟨S16x32x32x32, .f32⟩ : BufTy).Contents (Elt F) → (⟨S16x64x32x32, .f32⟩ : BufTy).Contents (Elt F))

def refOps : List (HloOp τ sig (Elt F)) := preOps ++ [lastOp]

set_option maxHeartbeats 2000000 in
theorem main_eq (d : Dev nD) : main (F := F) d = seq refOps := by
  rfl

theorem ref_bufs : (refOps (F := F)).Forall fun op => op.bufs ⊆ StableHlo.tcRefs τ sig := by
  simp only [refOps, preOps, lastOp, argminOps, takeOps, whereOps, List.cons_append, List.nil_append, List.Forall,
    StableHlo.TRef.nullary, StableHlo.TRef.unary, StableHlo.TRef.binary, StableHlo.TRef.ternary, StableHlo.TRef.quaternary,
    StableHlo.nullary_bufs_sub, StableHlo.unary_bufs_sub, StableHlo.binary_bufs_sub, StableHlo.ternary_bufs_sub, StableHlo.quaternary_bufs_sub,
    StableHlo.reshape_bufs_sub, and_self]

theorem ref_fresh : ∀ op ∈ (refOps (F := F)), op.fresh = ∅ := by
  refine List.forall_iff_forall_mem.mp ?_
  simp only [refOps, preOps, lastOp, argminOps, takeOps, whereOps, List.cons_append, List.nil_append, List.Forall]
  repeat' apply And.intro
  all_goals rfl

theorem run_main (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ∀ (d : Dev nD) (b : Ref sig .tc), r.2.mem ((d.tc : Thread nD τ).loc b) = after refOps (launchContents m d) (Proc.devRef .tc b) :=
  StableHlo.run_hlo _ _ main_eq (by decide) (by decide) ref_bufs ref_fresh m ρ

/-! ## What the reference leaves -/

/-- The squared distances of the positions of a half to the codewords. -/
def distR (z : FVec F S16x32x32x32 .f32) (e : FVec F S4096x32 .f32) : FVec F S16384x4096 .f32 :=
  addf (subf (broadcastInDim S16384x4096 ![0, 1] bcast_S16384x1_S16384x4096_0_1 (broadcastInDim S16384x1 ![0] bcast_S16384_S16384x1_0
        (Host.reduceAdd (mulf (shapeCast S16384x32 (transpose S16x32x32x32 [0, 2, 3, 1] z transposes_S16x32x32x32_S16x32x32x32_0_2_3_1) shapeCasts_S16x32x32x32_S16384x32)
            (shapeCast S16384x32 (transpose S16x32x32x32 [0, 2, 3, 1] z transposes_S16x32x32x32_S16x32x32x32_0_2_3_1) shapeCasts_S16x32x32x32_S16384x32))
          (constant S_ .f32 0x00000000#32) reducesTo_S16384x32_S16384_d1 h_S_)))
      (mulf (broadcastInDim S16384x4096 ![] bcast_S_S16384x4096 (constant S_ .f32 0x40000000#32))
        (Host.dotGeneral dot_S16384x32_S32x4096_S16384x4096_1_0_0_1_n_n none
          (shapeCast S16384x32 (transpose S16x32x32x32 [0, 2, 3, 1] z transposes_S16x32x32x32_S16x32x32x32_0_2_3_1) shapeCasts_S16x32x32x32_S16384x32)
          (transpose S32x4096 [1, 0] e transposes_S4096x32_S32x4096_1_0))))
    (broadcastInDim S16384x4096 ![0, 1] bcast_S1x4096_S16384x4096_0_1 (broadcastInDim S1x4096 ![1] bcast_S4096_S1x4096_1
      (Host.reduceAdd (mulf e e) (constant S_ .f32 0x00000000#32) reducesTo_S4096x32_S4096_d1 h_S_)))

/-- The first index of the least entry of each row. -/
def argR (x : FVec F S16384x4096 .f32) : IVec S16384 32 := fun j =>
  (Host.argReduce reducer_argmin_f32_i32 x (iotaInDim S16384x4096 32 1) (constant S_ .f32 0x7F800000#32) (constantI S_ 32 0#32) reducesTo_S16384x4096_S16384_d1 h_S_ j).2

/-- A negative index counted from the end, as a column. -/
def wrapR (i : IVec S16384 32) : IVec S16384x1 32 :=
  broadcastInDim S16384x1 ![0] bcast_S16384_S16384x1_0
    (select (cmpi .slt i (broadcastInDim S16384 ![] bcast_S_S16384 (constantI S_ 32 0#32))) (addi i (broadcastInDim S16384 ![] bcast_S_S16384 (constantI S_ 32 4096#32))) i)

/-- The rows listed; a row of no number for an index out of range. -/
def takeR (e : FVec F S4096x32 .f32) (i : IVec S16384 32) : FVec F S16384x32 .f32 :=
  select (broadcastInDim S16384x32 ![0] bcast_S16384_S16384x32_0
      (Host.reduce IntOp.andi
        (andi (cmpi .sge (wrapR i) (broadcastInDim S16384x1 ![] bcast_S_S16384x1 (constantI S_ 32 0#32)))
          (cmpi .sle (wrapR i) (broadcastInDim S16384x1 ![0, 1] bcast_S1x1_S16384x1_0_1 (broadcastInDim S1x1 ![1] bcast_S1_S1x1_1 (constantI S1 32 4095#32)))))
        (constantI S_ 1 1#1) reducesTo_S16384x1_S16384_d1 h_S_))
    (Host.gather gather_S4096x32_S16384x1_S16384x32_1_0_n_n_0_1_132 e (wrapR i))
    (broadcastInDim S16384x32 ![] bcast_S_S16384x32 (constant S_ .f32 0x7FC00000#32))

/-- One half of the result. -/
def halfR (z : FVec F S16x32x32x32 .f32) (e : FVec F S4096x32 .f32) : FVec F S16x32x32x32 .f32 :=
  addf z (subf (transpose S16x32x32x32 [0, 3, 1, 2] (shapeCast S16x32x32x32 (takeR e (argR (distR z e))) shapeCasts_S16384x32_S16x32x32x32)
    transposes_S16x32x32x32_S16x32x32x32_0_3_1_2) z)

/-- The two halves of the activations. -/
def lo (z : FVec F S16x64x32x32 .f32) : FVec F S16x32x32x32 .f32 := extractStridedSlice S16x32x32x32 ![0, 0, 0, 0] z slices_S16x64x32x32_S16x32x32x32_0_0_0_0
def hi (z : FVec F S16x64x32x32 .f32) : FVec F S16x32x32x32 .f32 := extractStridedSlice S16x32x32x32 ![0, 32, 0, 0] z slices_S16x64x32x32_S16x32x32x32_0_32_0_0

/-- The result. -/
def outR (z : FVec F S16x64x32x32 .f32) (e0 e1 : FVec F S4096x32 .f32) : FVec F S16x64x32x32 .f32 :=
  concatenate S16x64x32x32 1 [⟨S16x32x32x32, halfR (lo z) e0⟩, ⟨S16x32x32x32, halfR (hi z) e1⟩] concatenates_S16x32x32x32_S16x32x32x32_S16x64x32x32_d1

variable (V : Valuation τ sig (Elt F))

theorem after_append (a b : List (HloOp τ sig (Elt F))) : after (a ++ b) V = after b (after a V) := by
  induction a generalizing V with
  | nil => rfl
  | cons op a ih => rw [List.cons_append, StableHlo.after_cons, StableHlo.after_cons, ih]

theorem ref_arg0 : after refOps V (Proc.devRef .tc main_arg0) = V (Proc.devRef .tc main_arg0) := by
  unfold refOps preOps lastOp; after_reads_simp
theorem ref_arg1 : after refOps V (Proc.devRef .tc main_arg1) = V (Proc.devRef .tc main_arg1) := by
  unfold refOps preOps lastOp; after_reads_simp
theorem ref_arg2 : after refOps V (Proc.devRef .tc main_arg2) = V (Proc.devRef .tc main_arg2) := by
  unfold refOps preOps lastOp; after_reads_simp

set_option maxRecDepth 100000 in
theorem ref_lo : after preOps V (Proc.devRef .tc main_v23) = halfR (lo (V (Proc.devRef .tc main_arg0))) (V (Proc.devRef .tc main_arg1)) := by
  unfold preOps; after_reads_simp
  simp only [StableHlo.TRef.ofBuf_toBuf]
  rfl

set_option maxRecDepth 100000 in
theorem ref_hi : after preOps V (Proc.devRef .tc main_v45) = halfR (hi (V (Proc.devRef .tc main_arg0))) (V (Proc.devRef .tc main_arg2)) := by
  unfold preOps; after_reads_simp
  simp only [StableHlo.TRef.ofBuf_toBuf]
  rfl

theorem ref_out : after refOps V (Proc.devRef .tc main_v46)
    = outR (V (Proc.devRef .tc main_arg0)) (V (Proc.devRef .tc main_arg1)) (V (Proc.devRef .tc main_arg2)) := by
  unfold outR refOps
  rw [← ref_lo V, ← ref_hi V, after_append]
  generalize after preOps V = V'
  unfold lastOp
  after_reads_simp
  rfl

/-- The reference's run: the arguments unchanged, every semaphore at zero, the result the two halves side by side. -/
theorem run_ends (m : (ℓ : Loc nD τ sig) → Buf (Elt F) ℓ) (ρ : Dev nD → PrngReg) :
    θ_run (Cert.ReferenceIdeal.defs (F := F)) (onTc (τ := τ) (main (F := F))) ⟨m, fun _ => 0, ρ⟩ fun r =>
      ((∀ d : Dev nD, r.2.mem (d.tc.loc main_arg0) = m (d.tc.loc main_arg0) ∧ r.2.mem (d.tc.loc main_arg1) = m (d.tc.loc main_arg1)
          ∧ r.2.mem (d.tc.loc main_arg2) = m (d.tc.loc main_arg2)) ∧ r.2.sem = fun _ => 0)
        ∧ ∀ d : Dev nD, r.2.mem (d.tc.loc main_v46) = outR (m (d.tc.loc main_arg0)) (m (d.tc.loc main_arg1)) (m (d.tc.loc main_arg2)) :=
  (θ_run (Cert.ReferenceIdeal.defs (F := F)) _ _).mono
    (fun r h => ⟨⟨fun d => ⟨(h d _).trans (ref_arg0 _), (h d _).trans (ref_arg1 _), (h d _).trans (ref_arg2 _)⟩, sem_eq_zero_of_no_sems (by decide) r.2⟩,
      fun d => (h d _).trans (ref_out _)⟩) (run_main m ρ)

end Cert.Proof.Ref

end
-- ==== Proof.Same.lean ====
/-
  The two printed programs, read at the bit patterns, are one program: no rule applied, so their texts agree.
-/
module
public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

set_option cleanup.letToHave false
set_option maxHeartbeats 4000000

theorem main_same : Cert.Kernel.main (F := Bits) = Cert.KernelIdeal.main (F := Bits) := by rfl

theorem threads_same : Cert.Kernel.threads (F := Bits) = Cert.KernelIdeal.threads (F := Bits) :=
  congrArg (fun m => Cert.KernelIdeal.sc.threads m) main_same

/-- The bodies' tables agree label by label, on each kind of processor. -/
theorem bodies_same : Cert.Kernel.defs₀ (F := Bits) = Cert.KernelIdeal.defs₀ (F := Bits) := by
  funext p l a
  rcases p with _ | c | ⟨c, s⟩ <;>
    · match l, a with
      | 0, a => rfl
      | 1, a => rfl
      | 2, a => rfl
      | 3, a => rfl

theorem defs_same : Cert.Kernel.defs (F := Bits) = Cert.KernelIdeal.defs (F := Bits) :=
  congrArg (fun f => Cert.KernelIdeal.sc.defs (Pipeline.defs Cert.KernelIdeal.pcfgs f)) bodies_same

end Cert.Proof.Same

end
-- ==== Proof.Search.lean ====
/-
  What the search stores where one codeword is strictly nearest: its index.
-/
module

public import proofs.«01_k».proof.Proof.Region
public import Idealize.ShloMosaic.Lib.Pointwise

@[expose] public section

noncomputable section

namespace Cert.Proof.Search

open Cert.KernelIdeal Cert.KernelIdeal.Gen
open Idealize.ShloMosaic

/-- The distances of every codeword to every position of a block. -/
abbrev dist (x : FVec Ideal S1x1x32x32x32 .f32) (e : FVec Ideal S4096x32 .bf16) (n : FVec Ideal S4096x1 .f32) (k : Fin 4096) (j : Fin 1024) : EReal :=
  k2_pay3 (F := Ideal) x e n (ix2 k j)

/-- A codeword of the lower or the upper chunk. -/
def low (r : Fin 2048) : Fin 4096 := ⟨r.val, by omega⟩
def upp (r : Fin 2048) : Fin 4096 := ⟨2048 + r.val, by omega⟩

/-- One where a distance is no more than `v`, otherwise zero. -/
def hot (a v : EReal) : BitVec 32 := BitVec.setWidth 32 (BitVec.ofBool (decide (a ≤ v)))

/-- The index the two rows of digits give for a mask. -/
def found (h : FVec Ideal S2x2048 .bf16) (w : Fin 2048 → BitVec 32) : BitVec 32 :=
  FloatOps.fptosi (F := Ideal) 32 ((∑ r, (h (ix2 0 r) : EReal) * (FloatOps.sitofp (F := Ideal) .f32 (w r) : EReal)) * (Ideal.ofBits .f32 1115684864#32 : EReal)
    + ∑ r, (h (ix2 1 r) : EReal) * (FloatOps.sitofp (F := Ideal) .f32 (w r) : EReal))

theorem inf_eq : Ideal.ofBits .f32 2139095040#32 = ⊤ := by simp [Ideal.ofBits, Ideal.ieee]
theorem sixtyfour_eq : (Ideal.ofBits .f32 1115684864#32 : EReal) = ((64 : ℝ) : EReal) := by
  simp [Ideal.ofBits, Ideal.ieee, -EReal.coe_mul]; norm_num

section Reads

variable (x : FVec Ideal S1x1x32x32x32 .f32) (e : FVec Ideal S4096x32 .bf16) (n : FVec Ideal S4096x1 .f32) (h : FVec Ideal S2x2048 .bf16) (j : Fin 1024)

theorem low_min : k2_pay5 (F := Ideal) x e n (ix2 0 j) = Finset.univ.fold min (⊤ : EReal) (fun r => dist x e n (low r) j) := by
  rw [← inf_eq]
  pointwise [k2_pay5, k2_pay4]
  rfl

theorem upp_min : k2_pay8 (F := Ideal) x e n (ix2 0 j) = Finset.univ.fold min (⊤ : EReal) (fun r => dist x e n (upp r) j) := by
  rw [← inf_eq]
  pointwise [k2_pay8, k2_pay7]
  rfl

theorem low_found : k2_pay6 (F := Ideal) x e n h (ix2 0 j) = found h fun r => hot (dist x e n (low r) j) (k2_pay5 (F := Ideal) x e n (ix2 0 j)) := by
  unfold found hot
  pointwise [k2_pay6, k2_pay4, k2_pay2]
  rfl

theorem upp_hot (r : Fin 2048) : k2_pay9 (F := Ideal) x e n (ix2 r j) = hot (dist x e n (upp r) j) (k2_pay8 (F := Ideal) x e n (ix2 0 j)) := by
  unfold hot
  pointwise [k2_pay9, k2_pay7]
  rfl

theorem stored (v22 : FVec Ideal S1x1024 .f32) (v34 : IVec S1x1024 32) (v37 : FVec Ideal S1x1024 .f32) (v40 : IVec S2048x1024 32) :
    k2_pay1 (F := Ideal) (k2_pay2 (F := Ideal) h) v22 v34 v37 v40 (ix3 0 0 j)
      = IntOp.minsi 4095#32 (IntOp.maxsi 0#32 (if (v37 (ix2 0 j) : EReal) < v22 (ix2 0 j) then IntOp.addi (found h fun r => v40 (ix2 r j)) 2048#32 else v34 (ix2 0 j))) := by
  unfold found
  pointwise [k2_pay1, k2_pay2]
  rfl

end Reads

/-- A mask with one hot entry picks that entry. -/
theorem pick (h : Fin 2048 → EReal) (a : Fin 2048 → EReal) (v : EReal) (r₀ : Fin 2048) (hm : ∀ r, a r ≤ v ↔ r = r₀) :
    ∑ r, h r * (FloatOps.sitofp (F := Ideal) .f32 (hot (a r) v) : EReal) = h r₀ := by
  have h1 : (FloatOps.sitofp (F := Ideal) .f32 (1#32) : EReal) = 1 := by
    show (((1#32 : BitVec 32).toInt : ℝ) : EReal) = 1
    simp
  have h0 : (FloatOps.sitofp (F := Ideal) .f32 (0#32) : EReal) = 0 := by
    show (((0#32 : BitVec 32).toInt : ℝ) : EReal) = 0
    simp
  rw [Finset.sum_eq_single r₀]
  · rw [show hot (a r₀) v = 1#32 by unfold hot; rw [decide_eq_true ((hm r₀).mpr rfl)]; rfl, h1, mul_one]
  · intro r _ hr
    rw [show hot (a r) v = 0#32 by unfold hot; rw [decide_eq_false (mt (hm r).mp hr)]; rfl, h0, mul_zero]
  · exact fun hr => absurd (Finset.mem_univ _) hr

/-- The digits of an index give the index. -/
theorem found_of (h : FVec Ideal S2x2048 .bf16) (h0 : ∀ r : Fin 2048, (h (ix2 0 r) : EReal) = (((r.val / 64 : ℕ) : ℝ) : EReal))
    (h1 : ∀ r : Fin 2048, (h (ix2 1 r) : EReal) = (((r.val % 64 : ℕ) : ℝ) : EReal)) (a : Fin 2048 → EReal) (v : EReal) (r₀ : Fin 2048)
    (hm : ∀ r, a r ≤ v ↔ r = r₀) : found h (fun r => hot (a r) v) = BitVec.ofNat 32 r₀.val := by
  unfold found
  rw [pick (fun r => h (ix2 0 r)) a v r₀ hm, pick (fun r => h (ix2 1 r)) a v r₀ hm, h0, h1, sixtyfour_eq, ← EReal.coe_mul, ← EReal.coe_add]
  have hr : ((r₀.val / 64 : ℕ) : ℝ) * 64 + ((r₀.val % 64 : ℕ) : ℝ) = ((r₀.val : ℕ) : ℝ) := by
    have := Nat.div_add_mod r₀.val 64
    have h2 : r₀.val / 64 * 64 + r₀.val % 64 = r₀.val := by omega
    exact_mod_cast h2
  rw [hr]
  show BitVec.ofInt 32 (Ideal.toIntClamped _ _ _) = _
  rw [Ideal.toIntClamped_coe, if_pos (Nat.cast_nonneg _), Int.floor_natCast]
  have hlt := r₀.isLt
  rw [show max (-((2 ^ (32 - 1) : ℕ) : ℤ)) (min (((2 ^ (32 - 1) : ℕ) : ℤ) - 1) (r₀.val : ℤ)) = (r₀.val : ℤ) by omega]
  exact BitVec.ofInt_natCast 32 r₀.val

/-- Where one codeword is strictly nearest, its index is stored. -/
theorem stores (x : FVec Ideal S1x1x32x32x32 .f32) (e : FVec Ideal S4096x32 .bf16) (n : FVec Ideal S4096x1 .f32) (h : FVec Ideal S2x2048 .bf16)
    (h0 : ∀ r : Fin 2048, (h (ix2 0 r) : EReal) = (((r.val / 64 : ℕ) : ℝ) : EReal)) (h1 : ∀ r : Fin 2048, (h (ix2 1 r) : EReal) = (((r.val % 64 : ℕ) : ℝ) : EReal))
    (j : Fin 1024) (k₀ : Fin 4096) (hk : ∀ k, k ≠ k₀ → dist x e n k₀ j < dist x e n k j) :
    Tile.argBlk (F := Ideal) x e n h (ix3 0 0 j) = BitVec.ofNat 32 k₀.val := by
  unfold Tile.argBlk
  rw [stored, low_found]
  simp only [upp_hot]
  have hle : ∀ k, dist x e n k₀ j ≤ dist x e n k j := fun k => by
    by_cases hc : k = k₀
    · rw [hc]
    · exact (hk k hc).le
  have hmin : ∀ g : Fin 2048 → Fin 4096, Function.Injective g → ∀ r₀, g r₀ = k₀ →
      Finset.univ.fold min (⊤ : EReal) (fun r => dist x e n (g r) j) = dist x e n k₀ j
        ∧ ∀ r, dist x e n (g r) j ≤ dist x e n k₀ j ↔ r = r₀ := fun g hg r₀ h₀ =>
    ⟨le_antisymm ((Finset.fold_min_le _).mpr (Or.inr ⟨r₀, Finset.mem_univ _, by rw [h₀]⟩)) ((Finset.le_fold_min _).mpr ⟨le_top, fun r _ => hle _⟩),
      fun r => ⟨fun hr => by_contra fun hc => absurd (hk (g r) fun e => hc (hg (e.trans h₀.symm))) (not_lt.mpr hr), fun hr => by rw [hr, h₀]⟩⟩
  have hlt := k₀.isLt
  have hclip : ∀ w : BitVec 32, w = BitVec.ofNat 32 k₀.val → IntOp.minsi 4095#32 (IntOp.maxsi 0#32 w) = BitVec.ofNat 32 k₀.val := by
    rintro w rfl
    have hbi : (BitVec.ofNat 32 k₀.val).toInt = k₀.val := by
      rw [BitVec.toInt_eq_toNat_of_lt (by rw [BitVec.toNat_ofNat]; omega), BitVec.toNat_ofNat, Nat.mod_eq_of_lt (by omega)]
    have h1 : IntOp.maxsi 0#32 (BitVec.ofNat 32 k₀.val) = BitVec.ofNat 32 k₀.val := by
      unfold IntOp.maxsi
      rw [if_neg]
      rw [BitVec.slt, hbi]
      simp
    rw [h1]
    unfold IntOp.minsi
    by_cases hs : (4095#32).slt (BitVec.ofNat 32 k₀.val) = true
    · rw [BitVec.slt, hbi] at hs
      simp at hs
      omega
    · simp [hs]
  apply hclip
  by_cases hc : k₀.val < 2048
  · obtain ⟨hm, hh⟩ := hmin low (fun a b hab => Fin.ext (by have := congrArg Fin.val hab; exact this)) ⟨k₀.val, hc⟩ rfl
    rw [low_min, hm, if_neg]
    · exact found_of h h0 h1 _ _ ⟨k₀.val, hc⟩ hh
    · rw [upp_min, not_lt]
      exact (Finset.le_fold_min _).mpr ⟨le_top, fun r _ => hle _⟩
  · have hu : upp ⟨k₀.val - 2048, by omega⟩ = k₀ := Fin.ext (show 2048 + (k₀.val - 2048) = k₀.val by omega)
    obtain ⟨hm, hh⟩ := hmin upp (fun a b hab => Fin.ext (by have := congrArg Fin.val hab; simp only [upp] at this; omega)) ⟨k₀.val - 2048, by omega⟩ hu
    rw [upp_min, hm, if_pos]
    · rw [found_of h h0 h1 _ _ _ hh]
      show BitVec.ofNat 32 (k₀.val - 2048) + BitVec.ofNat 32 2048 = _
      rw [← BitVec.ofNat_add]
      congr 1
      omega
    · rw [low_min]
      have hne : ∀ r, low r ≠ k₀ := fun r hr => by have := congrArg Fin.val hr; simp only [low] at this; omega
      exact (Finset.lt_fold_min _).mpr ⟨lt_of_lt_of_le (hk _ (hne 0)) le_top, fun r _ => hk _ (hne r)⟩

end Cert.Proof.Search

end
-- ==== Proof.Kern.lean ====
/-
  The kernel's result at an index, of its arguments.
-/
module

public import proofs.«01_k».proof.Proof.Search
public import proofs.«01_k».proof.Proof.Ref
public import proofs.«01_k».proof.Proof.Frames
public import Idealize.ShloMosaic.Lib.Pointwise

@[expose] public section

noncomputable section

namespace Cert.Proof.Kern

open Cert.KernelIdeal Cert.KernelIdeal.Gen
open Idealize.ShloMosaic
open Idealize.ShloMosaic.StableHlo (after launchContents)

/-- The activations in two halves. -/
def halves (z : FVec Ideal S16x64x32x32 .f32) : FVec Ideal S16x2x32x32x32 .f32 := shapeCast S16x2x32x32x32 z shapeCasts_S16x64x32x32_S16x2x32x32x32

/-- The codewords' squared lengths. -/
def sqs (e : FVec Ideal S4096x32 .f32) : FVec Ideal S4096x1 .f32 :=
  broadcastInDim S4096x1 ![0] bcast_S4096_S4096x1_0 (Host.reduceAdd (mulf e e) (constant S_ .f32 0x00000000#32) reducesTo_S4096x32_S4096_d1 h_S_)

/-- The two lists of rows, joined as the result. -/
def join (q0 q1 : FVec Ideal S16384x32 .f32) : FVec Ideal S16x64x32x32 .f32 :=
  shapeCast S16x64x32x32 (transpose S16x2x32x32x32 [1, 0, 4, 2, 3] (shapeCast S2x16x32x32x32
      (concatenate S2x16384x32 0 [⟨S1x16384x32, broadcastInDim S1x16384x32 ![1, 2] bcast_S16384x32_S1x16384x32_1_2 q0⟩,
        ⟨S1x16384x32, broadcastInDim S1x16384x32 ![1, 2] bcast_S16384x32_S1x16384x32_1_2 q1⟩] concatenates_S1x16384x32_S1x16384x32_S2x16384x32_d0)
      shapeCasts_S2x16384x32_S2x16x32x32x32) transposes_S2x16x32x32x32_S16x2x32x32x32_1_0_4_2_3) shapeCasts_S16x2x32x32x32_S16x64x32x32

/-- The rows a list of indices names, of a codebook padded and cut again. -/
def rows (e : FVec Ideal S4096x32 .f32) (v : FVec Ideal S_ .f32) (w : IVec S1x16384 32) : FVec Ideal S16384x32 .f32 :=
  extractStridedSlice S16384x32 ![0, 0] (Tile.gatAll (F := Ideal) (pad S4096x128 ![0, 0] ![0, 96] ![0, 0] e v pads_S4096x32_S4096x128_000_0960 h_S_) w)
    slices_S16384x128_S16384x32_0_0

theorem sqs_at (e : FVec Ideal S4096x32 .f32) (k : Fin 4096) : sqs e (ix2 k 0) = (∑ c, (e (ix2 k c) * e (ix2 k c) : EReal)) := by
  pointwise [sqs]

theorem halves_at (z : FVec Ideal S16x64x32x32 .f32) (b : Fin 16) (p : Fin 2) (c y x : Fin 32) :
    halves z (ix5 b p c y x) = z (ix4 b ⟨p.val * 32 + c.val, by omega⟩ y x) := by
  pointwise [halves]

theorem half_of (f g : Fin 32 → EReal) (c : Fin 64) :
    (if _ : c.val / 32 < 1 then f ⟨c.val % 32, Nat.mod_lt _ (by decide)⟩ else g ⟨c.val % 32, Nat.mod_lt _ (by decide)⟩)
      = if h : c.val < 32 then f ⟨c.val, h⟩ else g ⟨c.val - 32, by omega⟩ := by
  by_cases h : c.val < 32
  · have h' : c.val / 32 < 1 := by omega
    simp only [h, h', dif_pos]
    exact congrArg f (Fin.ext (show c.val % 32 = c.val by omega))
  · have h' : ¬ c.val / 32 < 1 := by omega
    simp only [h, h', dif_neg, not_false_iff]
    exact congrArg g (Fin.ext (show c.val % 32 = c.val - 32 by omega))

theorem join_at (q0 q1 : FVec Ideal S16384x32 .f32) (b : Fin 16) (c : Fin 64) (y x : Fin 32) :
    join q0 q1 (ix4 b c y x) = if h : c.val < 32 then q0 (ix2 ⟨b.val * 1024 + y.val * 32 + x.val, by omega⟩ ⟨c.val, h⟩)
      else q1 (ix2 ⟨b.val * 1024 + y.val * 32 + x.val, by omega⟩ ⟨c.val - 32, by omega⟩) := by
  pointwise [join]
  exact half_of (fun t => q0 (ix2 ⟨b.val * 1024 + y.val * 32 + x.val, by omega⟩ t)) (fun t => q1 (ix2 ⟨b.val * 1024 + y.val * 32 + x.val, by omega⟩ t)) c

theorem row_of (e : FVec Ideal S4096x32 .f32) (v : EReal) (c : Fin 32) (t : ℕ) (k : Fin 4096) (ht : t = k.val) (hp : t < 4096 → t < 4096) :
    (if h : t < 4096 then (e (ix2 ⟨t, hp h⟩ c) : EReal) else v) = e (ix2 k c) := by
  subst ht
  exact dif_pos k.isLt

theorem rows_at (e : FVec Ideal S4096x32 .f32) (v : FVec Ideal S_ .f32) (w : IVec S1x16384 32) (p : Fin 16384) (c : Fin 32) (k : Fin 4096)
    (hw : w (ix2 0 p) = BitVec.ofNat 32 k.val) : rows e v w (ix2 p c) = e (ix2 k c) := by
  unfold rows
  pointwise [Tile.gatAll]
  have ht : (w (ix2 0 p)).toNat % 4096 = k.val := by
    rw [hw, BitVec.toNat_ofNat, Nat.mod_eq_of_lt (show k.val < 2 ^ 32 by omega), Nat.mod_eq_of_lt k.isLt]
  exact row_of e _ c _ k ht fun h => h

theorem dist_at (z : FVec Ideal S1x1x32x32x32 .f32) (e : FVec Ideal S4096x32 .bf16) (n : FVec Ideal S4096x1 .f32) (y x : Fin 32) (k : Fin 4096) :
    Search.dist z e n k ⟨y.val * 32 + x.val, by omega⟩
      = ((∑ c, z (ix5 0 0 c y x) * z (ix5 0 0 c y x)) - Ideal.ofBits .f32 1073741824#32 * (∑ c, e (ix2 k c) * z (ix5 0 0 c y x)) + n (ix2 k 0) : EReal) := by
  unfold Search.dist
  pointwise [k2_pay3]

theorem refdist_at (z : FVec Ideal Cert.ReferenceIdeal.S16x32x32x32 .f32) (e : FVec Ideal S4096x32 .f32) (b : Fin 16) (y x : Fin 32) (k : Fin 4096) :
    Ref.distR z e (ix2 ⟨b.val * 1024 + y.val * 32 + x.val, by omega⟩ k)
      = ((∑ c, z (ix4 b c y x) * z (ix4 b c y x)) - Ideal.ofBits .f32 1073741824#32 * (∑ c, z (ix4 b c y x) * e (ix2 k c)) + ∑ c, e (ix2 k c) * e (ix2 k c) : EReal) := by
  pointwise [Ref.distR]

/-- The block's distances are the reference's, at the block's positions. -/
theorem dist_eq (z : FVec Ideal S16x64x32x32 .f32) (z' : FVec Ideal Cert.ReferenceIdeal.S16x32x32x32 .f32) (e : FVec Ideal S4096x32 .f32) (p : Fin 2)
    (hz : ∀ b c y x, z' (ix4 b c y x) = z (ix4 b ⟨p.val * 32 + c.val, by omega⟩ y x)) (b : Fin 16) (y x : Fin 32) (k : Fin 4096) :
    Search.dist (fun i => halves z (ix5 b p (i 2) (i 3) (i 4))) (truncf .bf16 e bitsLt_bf16_f32) (sqs e) k ⟨y.val * 32 + x.val, by omega⟩
      = Ref.distR z' e (ix2 ⟨b.val * 1024 + y.val * 32 + x.val, by omega⟩ k) := by
  rw [dist_at, refdist_at, sqs_at]
  have hx : ∀ c : Fin 32, (fun i : S1x1x32x32x32.Idx => halves z (ix5 b p (i 2) (i 3) (i 4))) (ix5 0 0 c y x) = z' (ix4 b c y x) := fun c =>
    (halves_at z b p c y x).trans (hz b c y x).symm
  simp only [hx]
  congr 3
  exact Finset.sum_congr rfl fun c _ => mul_comm _ _

/-- The search's index at a position where one codeword is strictly nearest. -/
theorem arg_at (z : FVec Ideal S16x64x32x32 .f32) (z' : FVec Ideal Cert.ReferenceIdeal.S16x32x32x32 .f32) (e : FVec Ideal S4096x32 .f32) (h : FVec Ideal S2x2048 .bf16)
    (h0 : ∀ r : Fin 2048, (h (ix2 0 r) : EReal) = (((r.val / 64 : ℕ) : ℝ) : EReal)) (h1 : ∀ r : Fin 2048, (h (ix2 1 r) : EReal) = (((r.val % 64 : ℕ) : ℝ) : EReal))
    (p : Fin 2) (hz : ∀ b c y x, z' (ix4 b c y x) = z (ix4 b ⟨p.val * 32 + c.val, by omega⟩ y x)) (b : Fin 16) (y x : Fin 32) (k₀ : Fin 4096)
    (hk : ∀ k, k ≠ k₀ → Ref.distR z' e (ix2 ⟨b.val * 1024 + y.val * 32 + x.val, by omega⟩ k₀) < Ref.distR z' e (ix2 ⟨b.val * 1024 + y.val * 32 + x.val, by omega⟩ k)) :
    shapeCast S1x16384 (Tile.argArr (F := Ideal) p (halves z) (truncf .bf16 e bitsLt_bf16_f32) (sqs e) h) shapeCasts_S16x1x1024_S1x16384
      (ix2 0 ⟨b.val * 1024 + y.val * 32 + x.val, by omega⟩) = BitVec.ofNat 32 k₀.val := by
  have hs := Search.stores (fun i => halves z (ix5 b p (i 2) (i 3) (i 4))) (truncf .bf16 e bitsLt_bf16_f32) (sqs e) h h0 h1 ⟨y.val * 32 + x.val, by omega⟩ k₀
    fun k hne => by rw [dist_eq z z' e p hz, dist_eq z z' e p hz]; exact hk k hne
  rw [← hs]
  generalize hA : Tile.argArr (F := Ideal) p (halves z) (truncf .bf16 e bitsLt_bf16_f32) (sqs e) h = A
  have : A (ix3 b 0 ⟨y.val * 32 + x.val, by omega⟩) = _ := congrFun hA.symm _
  refine Eq.trans ?_ this
  pointwise []
  exact congrArg (fun t => A (ix3 b 0 t)) (Fin.ext (show (b.val * 1024 + y.val * 32 + x.val) % 1024 = y.val * 32 + x.val by omega))

end Cert.Proof.Kern

end
-- ==== Proof.Digits.lean ====
/-
  The two rows of digits the searches read: of an index `r`, the quotient and the remainder by 64.
-/
module

public import proofs.«01_k».proof.Proof.Frames
public import Idealize.ShloMosaic.Lib.Pointwise

@[expose] public section

noncomputable section

namespace Cert.Proof.Digits

open Cert.KernelIdeal Cert.KernelIdeal.Gen
open Idealize.ShloMosaic
open Idealize.ShloMosaic.StableHlo (after launchContents)

/-- The rounded-down quotient of each entry. -/
def quo (x : IVec S2048 32) (d : IVec S_ 32) : IVec S2048 32 :=
  select (andi (cmpi .ne (signi x) (broadcastInDim S2048 ![] bcast_S_S2048 (signi d)))
      (cmpi .ne (Host.remsi x (broadcastInDim S2048 ![] bcast_S_S2048 d)) (broadcastInDim S2048 ![] bcast_S_S2048 (constantI S_ 32 0#32))))
    (subi (Host.divsi x (broadcastInDim S2048 ![] bcast_S_S2048 d)) (broadcastInDim S2048 ![] bcast_S_S2048 (constantI S_ 32 1#32)))
    (Host.divsi x (broadcastInDim S2048 ![] bcast_S_S2048 d))

/-- The divisor, or one for zero. -/
def divisor (d : IVec S_ 32) : IVec S_ 32 := select (cmpi .eq d (constantI S_ 32 0#32)) (constantI S_ 32 1#32) d

/-- The remainder of each entry, with the divisor's sign. -/
def rest (x : IVec S2048 32) (d : IVec S_ 32) : IVec S2048 32 :=
  select (andi (cmpi .ne (cmpi .slt (Host.remsi x (broadcastInDim S2048 ![] bcast_S_S2048 d)) (broadcastInDim S2048 ![] bcast_S_S2048 (constantI S_ 32 0#32)))
        (broadcastInDim S2048 ![] bcast_S_S2048 (cmpi .slt d (constantI S_ 32 0#32))))
      (cmpi .ne (Host.remsi x (broadcastInDim S2048 ![] bcast_S_S2048 d)) (broadcastInDim S2048 ![] bcast_S_S2048 (constantI S_ 32 0#32))))
    (addi (Host.remsi x (broadcastInDim S2048 ![] bcast_S_S2048 d)) (broadcastInDim S2048 ![] bcast_S_S2048 d))
    (Host.remsi x (broadcastInDim S2048 ![] bcast_S_S2048 d))

/-- The two rows. -/
def rows : FVec Ideal S2x2048 .bf16 :=
  sitofp .bf16 (concatenate S2x2048 0 [⟨S1x2048, broadcastInDim S1x2048 ![1] bcast_S2048_S1x2048_1 (quo (iotaInDim S2048 32 0) (constantI S_ 32 64#32))⟩,
    ⟨S1x2048, broadcastInDim S1x2048 ![1] bcast_S2048_S1x2048_1 (rest (iotaInDim S2048 32 0) (divisor (constantI S_ 32 64#32)))⟩] concatenates_S1x2048_S1x2048_S2x2048_d0)

theorem quo_at (r : Fin 2048) : quo (iotaInDim S2048 32 0) (constantI S_ 32 64#32) (ix1 r) = BitVec.ofNat 32 (r.val / 64) := by
  pointwise [quo]
  revert r
  decide +kernel

theorem rest_at (r : Fin 2048) : rest (iotaInDim S2048 32 0) (divisor (constantI S_ 32 64#32)) (ix1 r) = BitVec.ofNat 32 (r.val % 64) := by
  pointwise [rest, divisor]
  revert r
  decide +kernel

theorem int_of (n : ℕ) (h : n < 2048) : (FloatOps.sitofp (F := Ideal) .bf16 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem rows_cat (a b : IVec S2048 32) (r : Fin 2048) :
    (sitofp .bf16 (concatenate S2x2048 0 [⟨S1x2048, broadcastInDim S1x2048 ![1] bcast_S2048_S1x2048_1 a⟩, ⟨S1x2048, broadcastInDim S1x2048 ![1] bcast_S2048_S1x2048_1 b⟩]
        concatenates_S1x2048_S1x2048_S2x2048_d0) : FVec Ideal S2x2048 .bf16) (ix2 0 r) = FloatOps.sitofp (F := Ideal) .bf16 (a (ix1 r))
    ∧ (sitofp .bf16 (concatenate S2x2048 0 [⟨S1x2048, broadcastInDim S1x2048 ![1] bcast_S2048_S1x2048_1 a⟩, ⟨S1x2048, broadcastInDim S1x2048 ![1] bcast_S2048_S1x2048_1 b⟩]
        concatenates_S1x2048_S1x2048_S2x2048_d0) : FVec Ideal S2x2048 .bf16) (ix2 1 r) = FloatOps.sitofp (F := Ideal) .bf16 (b (ix1 r)) := by
  constructor
  · pointwise []
  · pointwise []

theorem rows_hi (r : Fin 2048) : (rows (ix2 0 r) : EReal) = (((r.val / 64 : ℕ) : ℝ) : EReal) := by
  unfold rows
  rw [(rows_cat _ _ r).1, quo_at, int_of _ (by omega)]

theorem rows_lo (r : Fin 2048) : (rows (ix2 1 r) : EReal) = (((r.val % 64 : ℕ) : ℝ) : EReal) := by
  unfold rows
  rw [(rows_cat _ _ r).2, rest_at, int_of _ (by omega)]

end Cert.Proof.Digits

end
-- ==== Proof.RefAt.lean ====
/-
  The reference's result at an index, where the activations are real and one codeword is found.
-/
module

public import proofs.«01_k».proof.Proof.Ref
public import Idealize.ShloMosaic.Lib.ReduceAll
public import Idealize.ShloMosaic.Lib.Routing.Ops
public import Idealize.ShloMosaic.Lib.Pointwise
public import Idealize.ShloMosaic.Lib.Pointwise.IndexBridge

@[expose] public section

noncomputable section

namespace Cert.Proof.Ref

open Cert.ReferenceIdeal Cert.ReferenceIdeal.Gen
open Idealize.ShloMosaic

theorem word_int (k : Fin 4096) : (BitVec.ofNat 32 k.val).toInt = k.val := by
  rw [BitVec.toInt_eq_toNat_of_lt (by rw [BitVec.toNat_ofNat]; omega), BitVec.toNat_ofNat, Nat.mod_eq_of_lt (by omega)]

theorem add_sub_real (r : ℝ) (q : EReal) : (r : EReal) + (q - r) = q := by
  induction q with
  | bot => simp
  | top => simp
  | coe a => rw [← EReal.coe_sub, ← EReal.coe_add, add_sub_cancel]

/-- An index in range is kept. -/
theorem wrap_at (i : IVec S16384 32) (p : Fin 16384) (k : Fin 4096) (h : i (ix1 p) = BitVec.ofNat 32 k.val) : wrapR i (ix2 p 0) = BitVec.ofNat 32 k.val := by
  have hk : (BitVec.ofNat 32 k.val).slt 0#32 = false := by
    rw [BitVec.slt, word_int]
    simp
  pointwise [wrapR]
  rw [h]
  simp [Scalar.select, IntOp.cmpi, hk]

/-- The row of an index in range. -/
theorem take_at (e : FVec Ideal S4096x32 .f32) (i : IVec S16384 32) (p : Fin 16384) (c : Fin 32) (k : Fin 4096) (h : i (ix1 p) = BitVec.ofNat 32 k.val) :
    takeR e i (ix2 p c) = e (ix2 k c) := by
  have hw := wrap_at i p k h
  have hg : Host.gather gather_S4096x32_S16384x1_S16384x32_1_0_n_n_0_1_132 e (wrapR i) (ix2 p c) = e (ix2 k c) := by
    simp only [ix2_eq_valueIdx] at hw ⊢
    exact Routing.gather_row _ rfl rfl rfl rfl rfl e (wrapR i) p c k hw (by decide)
  unfold takeR
  generalize wrapR i = w at hw hg ⊢
  have h0 : (0#32).sle (BitVec.ofNat 32 k.val) = true := by
    rw [BitVec.sle, word_int]
    simp
  have h1 : (BitVec.ofNat 32 k.val).sle 4095#32 = true := by
    rw [BitVec.sle, word_int]
    simp
    omega
  pointwise []
  rw [hg, Finset.univ_unique, Finset.fold_singleton, show (default : Fin 1) = 0 from rfl, hw]
  simp [Scalar.select, IntOp.cmpi, IntOp.andi, h0, h1]

/-- One half of the result is the codewords found. -/
theorem half_at (z : FVec Ideal S16x32x32x32 .f32) (e : FVec Ideal S4096x32 .f32) (b : Fin 16) (c y x : Fin 32) (k : Fin 4096) (r : ℝ) (hr : z (ix4 b c y x) = (r : EReal))
    (h : argR (distR z e) (ix1 ⟨b.val * 1024 + y.val * 32 + x.val, by omega⟩) = BitVec.ofNat 32 k.val) : halfR z e (ix4 b c y x) = e (ix2 k c) := by
  have ht := take_at e _ _ c k h
  unfold halfR
  generalize takeR e (argR (distR z e)) = t at ht ⊢
  pointwise []
  rw [ht, hr]
  exact add_sub_real r _

theorem out_at (z : FVec Ideal S16x64x32x32 .f32) (e0 e1 : FVec Ideal S4096x32 .f32) (b : Fin 16) (c : Fin 64) (y x : Fin 32) :
    outR z e0 e1 (ix4 b c y x) = if h : c.val < 32 then halfR (lo z) e0 (ix4 b ⟨c.val, h⟩ y x) else halfR (hi z) e1 (ix4 b ⟨c.val - 32, by omega⟩ y x) := by
  unfold outR
  generalize halfR (lo z) e0 = A
  generalize halfR (hi z) e1 = B
  pointwise []

theorem lo_at (z : FVec Ideal S16x64x32x32 .f32) (b : Fin 16) (c y x : Fin 32) : lo z (ix4 b c y x) = z (ix4 b ⟨c.val, by omega⟩ y x) := by
  pointwise [lo]

theorem hi_at (z : FVec Ideal S16x64x32x32 .f32) (b : Fin 16) (c y x : Fin 32) : hi z (ix4 b c y x) = z (ix4 b ⟨32 + c.val, by omega⟩ y x) := by
  pointwise [hi]

end Cert.Proof.Ref

end
-- ==== Proof.Unique.lean ====
/-
  The precondition's facts about its shapes, and what the precondition says at an index: the activations are finite, and at
  each position one codeword is strictly nearer than every other.
-/
module

public import proofs.«01_k».proof.Pre_nearest_is_unique
public import proofs.«01_k».proof.Proof.Ref
public import Idealize.ShloMosaic.Lib.ReduceAll
public import Idealize.ShloMosaic.Lib.Pointwise

@[expose] public section

noncomputable section

namespace Cert.Proof.Unique

open Idealize.ShloMosaic

instance facts : Cert.Pre_nearest_is_unique.Facts where
  bcast_S_S16x64x32x32 := by decide
  reducesTo_S16x64x32x32_S_d0_1_2_3 := by decide
  h_S_ := by decide
  slices_S16x64x32x32_S16x32x32x32_0_0_0_0 := by decide
  slices_S16x64x32x32_S16x32x32x32_0_32_0_0 := by decide
  transposes_S16x32x32x32_S16x32x32x32_0_2_3_1 := by decide
  shapeCasts_S16x32x32x32_S16384x32 := by decide
  reducesTo_S16384x32_S16384_d1 := by decide
  bcast_S16384_S16384x1_0 := by decide
  transposes_S4096x32_S32x4096_1_0 := by decide
  bcast_S_S16384x4096 := by decide
  bcast_S16384x1_S16384x4096_0_1 := by decide
  reducesTo_S4096x32_S4096_d1 := by decide
  bcast_S4096_S1x4096_1 := by decide
  bcast_S1x4096_S16384x4096_0_1 := by decide
  reducesTo_S16384x4096_S16384_d1 := by decide
  reducesTo_S16384x4096_S_d0_1 := by decide
  dot_S16384x32_S32x4096_S16384x4096_1_0_0_1_n_n_wf := by decide

section
open Cert.Pre_nearest_is_unique Cert.Pre_nearest_is_unique.Facts

/-- The activations are finite, as the precondition says it. -/
def finB (z : FVec Ideal S16x64x32x32 .f32) : IVec S_ 1 :=
  Host.reduce IntOp.andi (cmpf .olt (Host.absf z) (broadcastInDim S16x64x32x32 ![] bcast_S_S16x64x32x32 (constant S_ .f32 0x7F800000#32)))
    (constantI S_ 1 1#1) reducesTo_S16x64x32x32_S_d0_1_2_3 h_S_

/-- The least distance at each position. -/
def lowR (D : FVec Ideal S16384x4096 .f32) : FVec Ideal S16384 .f32 :=
  Host.reduce FloatOps.minimumf D (constant S_ .f32 0x7F800000#32) reducesTo_S16384x4096_S16384_d1 h_S_

/-- At each position every codeword but the one found is farther than the nearest, as the precondition says it. -/
def sepB (D : FVec Ideal S16384x4096 .f32) : IVec S_ 1 :=
  Host.reduce IntOp.andi
    (ori (cmpf .ogt D (broadcastInDim S16384x4096 ![0, 1] bcast_S16384x1_S16384x4096_0_1 (broadcastInDim S16384x1 ![0] bcast_S16384_S16384x1_0
        (lowR D))))
      (cmpi .eq (iotaInDim S16384x4096 32 1) (broadcastInDim S16384x4096 ![0, 1] bcast_S16384x1_S16384x4096_0_1
        (broadcastInDim S16384x1 ![0] bcast_S16384_S16384x1_0 (Ref.argR D)))))
    (constantI S_ 1 1#1) reducesTo_S16384x4096_S_d0_1 h_S_

set_option cleanup.letToHave false in
set_option maxHeartbeats 2000000 in
theorem fn_eq (z : FVec Ideal S16x64x32x32 .f32) (e0 e1 : FVec Ideal S4096x32 .f32) :
    fn z e0 e1 = andi (andi (finB z) (sepB (Ref.distR (Ref.lo z) e0))) (sepB (Ref.distR (Ref.hi z) e1)) := by
  rfl

instance : Subsingleton S_.Idx := ⟨fun a b => funext fun i => i.elim0⟩

theorem inf_eq : Ideal.ofBits .f32 2139095040#32 = ⊤ := by simp [Ideal.ofBits, Ideal.ieee]

/-- Every activation is a real number. -/
theorem finite_of {z : FVec Ideal S16x64x32x32 .f32} (h : finB z = fun _ => 1#1) (i : S16x64x32x32.Idx) : ∃ r : ℝ, z i = (r : EReal) := by
  have h1 := Host.reduce_andi_all _ _ _ _ ix0 (congrFun h ix0) i
  have h2 : FloatOps.absf (z i) < Ideal.ofBits .f32 2139095040#32 := by
    by_contra hc
    have : (BitVec.ofBool (decide (FloatOps.absf (z i) < Ideal.ofBits .f32 2139095040#32))) = 1#1 := h1
    simp [hc] at this
  rw [inf_eq, Ideal.absf_def] at h2
  have hz : z i ≠ (⊤ : EReal) ∧ z i ≠ (⊥ : EReal) :=
    ⟨fun e => by rw [e] at h2; simp at h2, fun e => by rw [e] at h2; simp at h2⟩
  exact ⟨EReal.toReal (z i), (EReal.coe_toReal hz.1 hz.2).symm⟩

theorem low_at (D : FVec Ideal S16384x4096 .f32) (p : Fin 16384) :
    lowR D (ix1 p) = Finset.univ.fold min (⊤ : EReal) (fun k => D (ix2 p k)) := by
  rw [← inf_eq]
  pointwise [lowR]

theorem sep_row (D : FVec Ideal S16384x4096 .f32) (L : FVec Ideal S16384 .f32) (A : IVec S16384 32) (p : Fin 16384) (k : Fin 4096)
    (h : ori (cmpf .ogt D (broadcastInDim S16384x4096 ![0, 1] bcast_S16384x1_S16384x4096_0_1 (broadcastInDim S16384x1 ![0] bcast_S16384_S16384x1_0 L)))
      (cmpi .eq (iotaInDim S16384x4096 32 1) (broadcastInDim S16384x4096 ![0, 1] bcast_S16384x1_S16384x4096_0_1
        (broadcastInDim S16384x1 ![0] bcast_S16384_S16384x1_0 A))) (ix2 p k) = 1#1) :
    L (ix1 p) < D (ix2 p k) ∨ BitVec.ofNat 32 k.val = A (ix1 p) := by
  revert h
  pointwise []
  intro h1
  by_cases hc : L (ix1 p) < D (ix2 p k)
  · exact Or.inl hc
  · right
    by_contra hk
    have hb : (BitVec.ofNat 32 k.val == A (ix1 p)) = false := beq_eq_false_iff_ne.mpr hk
    simp [hc, hb, IntOp.ori, IntOp.cmpi] at h1

/-- Each codeword is the one found or farther than the nearest. -/
theorem sep_at {D : FVec Ideal S16384x4096 .f32} (h : sepB D = fun _ => 1#1) (p : Fin 16384) (k : Fin 4096) :
    Finset.univ.fold min (⊤ : EReal) (fun k => D (ix2 p k)) < D (ix2 p k) ∨ BitVec.ofNat 32 k.val = Ref.argR D (ix1 p) := by
  rw [← low_at]
  exact sep_row D (lowR D) (Ref.argR D) p k (Host.reduce_andi_all _ _ _ _ ix0 (congrFun h ix0) (ix2 p k))

/-- One codeword is strictly nearest, and it is the one found. -/
theorem nearest_of {D : FVec Ideal S16384x4096 .f32} (h : sepB D = fun _ => 1#1) (p : Fin 16384) :
    ∃ k₀ : Fin 4096, Ref.argR D (ix1 p) = BitVec.ofNat 32 k₀.val ∧ ∀ k, k ≠ k₀ → D (ix2 p k₀) < D (ix2 p k) := by
  obtain ⟨k₀, -, hk₀⟩ := Finset.exists_min_image (Finset.univ : Finset (Fin 4096)) (fun k => D (ix2 p k)) ⟨0, Finset.mem_univ _⟩
  have hle : D (ix2 p k₀) ≤ Finset.univ.fold min (⊤ : EReal) (fun k => D (ix2 p k)) :=
    (Finset.le_fold_min _).mpr ⟨le_top, fun k hk => hk₀ k hk⟩
  have hw : Ref.argR D (ix1 p) = BitVec.ofNat 32 k₀.val := ((sep_at h p k₀).resolve_left (not_lt.mpr hle)).symm
  refine ⟨k₀, hw, fun k hk => ?_⟩
  rcases sep_at h p k with h' | h'
  · exact lt_of_le_of_lt hle h'
  · rw [hw] at h'
    have := congrArg BitVec.toNat h'
    rw [BitVec.toNat_ofNat, BitVec.toNat_ofNat, Nat.mod_eq_of_lt (by omega), Nat.mod_eq_of_lt (by omega)] at this
    exact absurd (Fin.ext this) hk

/-- What the precondition says: the activations are real, and in each half one codeword is strictly nearest at each position. -/
theorem pre_says {z : FVec Ideal S16x64x32x32 .f32} {e0 e1 : FVec Ideal S4096x32 .f32} (h : fn z e0 e1 = fun _ => 1#1) :
    (∀ i, ∃ r : ℝ, z i = (r : EReal)) ∧
    (∀ p : Fin 16384, ∃ k₀ : Fin 4096, Ref.argR (Ref.distR (Ref.lo z) e0) (ix1 p) = BitVec.ofNat 32 k₀.val ∧
      ∀ k, k ≠ k₀ → Ref.distR (Ref.lo z) e0 (ix2 p k₀) < Ref.distR (Ref.lo z) e0 (ix2 p k)) ∧
    (∀ p : Fin 16384, ∃ k₀ : Fin 4096, Ref.argR (Ref.distR (Ref.hi z) e1) (ix1 p) = BitVec.ofNat 32 k₀.val ∧
      ∀ k, k ≠ k₀ → Ref.distR (Ref.hi z) e1 (ix2 p k₀) < Ref.distR (Ref.hi z) e1 (ix2 p k)) := by
  rw [fn_eq] at h
  have hj : ∀ j, (finB z j = 1#1 ∧ sepB (Ref.distR (Ref.lo z) e0) j = 1#1) ∧ sepB (Ref.distR (Ref.hi z) e1) j = 1#1 := fun j =>
    ⟨IntOp.andi_eq_one.mp (IntOp.andi_eq_one.mp (congrFun h j)).1, (IntOp.andi_eq_one.mp (congrFun h j)).2⟩
  exact ⟨finite_of (funext fun j => (hj j).1.1), nearest_of (funext fun j => (hj j).1.2), nearest_of (funext fun j => (hj j).2)⟩

end

end Cert.Proof.Unique

end
-- ==== Proof.Value.lean ====
/-
  The kernel's result is the reference's, where the precondition holds.
-/
module

public import proofs.«01_k».proof.Proof.Kern
public import proofs.«01_k».proof.Proof.Digits
public import proofs.«01_k».proof.Proof.RefAt
public import proofs.«01_k».proof.Proof.Unique

@[expose] public section

noncomputable section

namespace Cert.Proof.Value

open Cert.KernelIdeal Cert.KernelIdeal.Gen
open Idealize.ShloMosaic
open Idealize.ShloMosaic.TcCoe
open Idealize.ShloMosaic.StableHlo (after launchContents)

/-! ## What the host operations leave -/

section Reads

variable (V : Valuation τ sig (Elt Ideal))

/-- The padding's value. -/
abbrev padv : FVec Ideal S_ .f32 := sitofp .f32 (constantI S_ 32 0#32)

set_option maxRecDepth 100000 in
theorem digits_quo : after Tile.digitOps V (Proc.devRef .tc main_v1) = Digits.quo (iotaInDim S2048 32 0) (constantI S_ 32 64#32) := by
  unfold Tile.digitOps; after_reads_simp
  simp only [StableHlo.TRef.ofBuf_toBuf]
  rfl

set_option maxRecDepth 100000 in
theorem digits_rest : after Tile.digitOps V (Proc.devRef .tc main_v2) = Digits.rest (iotaInDim S2048 32 0) (Digits.divisor (constantI S_ 32 64#32)) := by
  unfold Tile.digitOps; after_reads_simp
  simp only [StableHlo.TRef.ofBuf_toBuf]
  rfl

theorem book_v6 : after Tile.bookOps V (Proc.devRef .tc main_v6)
    = (sitofp .bf16 (concatenate S2x2048 0 [⟨S1x2048, broadcastInDim S1x2048 ![1] bcast_S2048_S1x2048_1 (V (Proc.devRef .tc main_v1) : IVec S2048 32)⟩,
        ⟨S1x2048, broadcastInDim S1x2048 ![1] bcast_S2048_S1x2048_1 (V (Proc.devRef .tc main_v2) : IVec S2048 32)⟩] concatenates_S1x2048_S1x2048_S2x2048_d0) : FVec Ideal S2x2048 .bf16) := by
  unfold Tile.bookOps; after_reads_simp
  rfl

theorem ops0_v6 : after Tile.ops0 V (Proc.devRef .tc main_v6) = Digits.rows := by
  unfold Tile.ops0 Digits.rows
  rw [StableHlo.after_append, book_v6, digits_quo, digits_rest]

theorem join_v32 : after Tile.ops4 V (Proc.devRef .tc main_v32)
    = Kern.join (V (Proc.devRef .tc main_v16)) (extractStridedSlice S16384x32 ![0, 0] (V (Proc.devRef .tc main_v25) : FVec Ideal S16384x128 .f32) slices_S16384x128_S16384x32_0_0) := by
  unfold Tile.ops4; after_reads_simp
  rfl

theorem ops0_v7 : after Tile.ops0 V (Proc.devRef .tc main_v7) = truncf (F := Ideal) .bf16 (V (Proc.devRef .tc main_arg1)) bitsLt_bf16_f32 := by
  unfold Tile.ops0 Tile.digitOps Tile.bookOps; after_reads_simp
theorem ops0_v10 : after Tile.ops0 V (Proc.devRef .tc main_v10) = Kern.sqs (V (Proc.devRef .tc main_arg1)) := by
  unfold Tile.ops0 Tile.digitOps Tile.bookOps; after_reads_simp; rfl
theorem ops0_v11 : after Tile.ops0 V (Proc.devRef .tc main_v11) = Kern.halves (V (Proc.devRef .tc main_arg0)) := by
  unfold Tile.ops0 Tile.digitOps Tile.bookOps; after_reads_simp; rfl

theorem ops2_v16 : after Tile.ops2 V (Proc.devRef .tc main_v16)
    = (extractStridedSlice S16384x32 ![0, 0] (V (Proc.devRef .tc main_v15) : FVec Ideal S16384x128 .f32) slices_S16384x128_S16384x32_0_0 : FVec Ideal S16384x32 .f32) := by
  unfold Tile.ops2; after_reads_simp
theorem ops2_v17 : after Tile.ops2 V (Proc.devRef .tc main_v17) = truncf (F := Ideal) .bf16 (V (Proc.devRef .tc main_arg2)) bitsLt_bf16_f32 := by
  unfold Tile.ops2; after_reads_simp
theorem ops2_v20 : after Tile.ops2 V (Proc.devRef .tc main_v20) = Kern.sqs (V (Proc.devRef .tc main_arg2)) := by
  unfold Tile.ops2; after_reads_simp; rfl
theorem ops2_v21 : after Tile.ops2 V (Proc.devRef .tc main_v21) = Kern.halves (V (Proc.devRef .tc main_arg0)) := by
  unfold Tile.ops2; after_reads_simp; rfl

theorem ops1_v14 : after Tile.ops1 V (Proc.devRef .tc main_v14)
    = (pad S4096x128 ![0, 0] ![0, 96] ![0, 0] (V (Proc.devRef .tc main_arg1) : FVec Ideal S4096x32 .f32) padv pads_S4096x32_S4096x128_000_0960 h_S_ : FVec Ideal S4096x128 .f32) := by
  unfold Tile.ops1; after_reads_simp
  simp only [StableHlo.TRef.ofBuf_toBuf]
  rfl
theorem ops3_v24 : after Tile.ops3 V (Proc.devRef .tc main_v24)
    = (pad S4096x128 ![0, 0] ![0, 96] ![0, 0] (V (Proc.devRef .tc main_arg2) : FVec Ideal S4096x32 .f32) padv pads_S4096x32_S4096x128_000_0960 h_S_ : FVec Ideal S4096x128 .f32) := by
  unfold Tile.ops3; after_reads_simp
  simp only [StableHlo.TRef.ofBuf_toBuf]
  rfl

theorem ops1_v6 : after Tile.ops1 V (Proc.devRef .tc main_v6) = V (Proc.devRef .tc main_v6) := by
  unfold Tile.ops1; after_reads_simp
theorem ops2_v6 : after Tile.ops2 V (Proc.devRef .tc main_v6) = V (Proc.devRef .tc main_v6) := by
  unfold Tile.ops2; after_reads_simp
theorem ops3_v16 : after Tile.ops3 V (Proc.devRef .tc main_v16) = V (Proc.devRef .tc main_v16) := by
  unfold Tile.ops3; after_reads_simp

end Reads

/-! ## The two lists of rows -/

section Chain

variable (m : (ℓ : Loc nD τ sig) → Buf (Elt Ideal) ℓ) (d : Dev nD)

/-- The three arguments. -/
abbrev zA : FVec Ideal S16x64x32x32 .f32 := m (d, Proc.devRef .tc main_arg0)
abbrev eA : FVec Ideal S4096x32 .f32 := m (d, Proc.devRef .tc main_arg1)
abbrev eB : FVec Ideal S4096x32 .f32 := m (d, Proc.devRef .tc main_arg2)

/-- The indices one search leaves, in a row. -/
def list (p : Fin 2) (e : FVec Ideal S4096x32 .f32) : IVec S1x16384 32 :=
  shapeCast S1x16384 (Tile.argArr (F := Ideal) p (Kern.halves (zA m d)) (truncf .bf16 e bitsLt_bf16_f32) (Kern.sqs e) Digits.rows) shapeCasts_S16x1x1024_S1x16384

theorem W1_v6 : Tile.W1 m d (Proc.devRef .tc main_v6) = Digits.rows := ops0_v6 _

theorem ne_of {r s : Ref sig .tc} (h : r ≠ s) : Proc.devRef (τ := τ) .tc r ≠ Proc.devRef .tc s := fun e =>
  h (Proc.devRef_injective (τ := τ) (sig := sig) (.tc : Proc τ) e)

theorem W5_v6 : Tile.W5 m d (Proc.devRef .tc main_v6) = Digits.rows :=
  (ops2_v6 _).trans <| (Function.update_of_ne (ne_of (by decide)) _ _).trans <| (ops1_v6 _).trans <| (Tile.aft0_keeps _ _ d _ (by decide)).trans (W1_v6 m d)

theorem list0 : Tile.W3 m d (Proc.devRef .tc main_v13) = list m d 0 (eA m d) := by
  rw [Tile.v13_eq, W1_v6]
  unfold Tile.W1
  rw [ops0_v7, ops0_v10, ops0_v11]
  rfl

theorem list1 : Tile.W7 m d (Proc.devRef .tc main_v23) = list m d 1 (eB m d) := by
  rw [Tile.v23_eq, W5_v6]
  unfold Tile.W5
  rw [ops2_v17, ops2_v20, ops2_v21, (Tile.args4 m d).a0, (Tile.args4 m d).a2]
  rfl

theorem rows0 : Tile.W5 m d (Proc.devRef .tc main_v16) = Kern.rows (eA m d) padv (list m d 0 (eA m d)) := by
  unfold Tile.W5
  rw [ops2_v16]
  unfold Tile.W4
  rw [Function.update_self]
  unfold Tile.g0
  rw [list0]
  unfold Tile.W3
  rw [ops1_v14, (Tile.args2 m d).a1]
  rfl

theorem rows1 : (extractStridedSlice S16384x32 ![0, 0] (Tile.W8 m d (Proc.devRef .tc main_v25) : FVec Ideal S16384x128 .f32) slices_S16384x128_S16384x32_0_0
    : FVec Ideal S16384x32 .f32) = Kern.rows (eB m d) padv (list m d 1 (eB m d)) := by
  unfold Tile.W8
  rw [Function.update_self]
  unfold Tile.g1
  rw [list1]
  unfold Tile.W7
  rw [ops3_v24, (Tile.args6 m d).a2]
  rfl

/-- The result is the two lists of rows, joined. -/
theorem result : Tile.W9 m d (Proc.devRef .tc main_v32)
    = Kern.join (Kern.rows (eA m d) padv (list m d 0 (eA m d))) (Kern.rows (eB m d) padv (list m d 1 (eB m d))) := by
  unfold Tile.W9
  rw [join_v32, rows1]
  refine congrArg (fun q => Kern.join q _) ?_
  exact (Function.update_of_ne (ne_of (by decide)) _ _).trans <| (ops3_v16 _).trans <| (Tile.aft1_keeps _ _ d _ (by decide)).trans (rows0 m d)

/-- Where the precondition holds, the kernel's result is the reference's. -/
theorem value (h : Cert.Pre_nearest_is_unique.fn (F := Ideal) (zA m d) (eA m d) (eB m d) = fun _ => 1#1) :
    Tile.W9 m d (Proc.devRef .tc main_v32) = Ref.outR (F := Ideal) (zA m d) (eA m d) (eB m d) := by
  obtain ⟨hfin, hlo, hhi⟩ := Unique.pre_says h
  rw [result]
  funext i
  obtain ⟨b, c, y, x, rfl⟩ : ∃ b c y x, i = ix4 b c y x := ⟨i 0, i 1, i 2, i 3, by funext a; match a with | 0 => rfl | 1 => rfl | 2 => rfl | 3 => rfl⟩
  rw [Kern.join_at, Ref.out_at]
  by_cases hc : c.val < 32
  · rw [dif_pos hc, dif_pos hc]
    obtain ⟨k, hk, hn⟩ := hlo ⟨b.val * 1024 + y.val * 32 + x.val, by omega⟩
    obtain ⟨r, hr⟩ := hfin (ix4 b c y x)
    rw [Ref.half_at _ _ b ⟨c.val, hc⟩ y x k r ((Ref.lo_at _ b ⟨c.val, hc⟩ y x).trans hr) hk]
    exact Kern.rows_at _ _ _ _ _ k (Kern.arg_at (zA m d) (Ref.lo (zA m d)) (eA m d) Digits.rows Digits.rows_hi Digits.rows_lo 0
      (fun b c y x => (Ref.lo_at _ b c y x).trans (congrArg (fun t => zA m d (ix4 b t y x)) (Fin.ext (show c.val = 0 * 32 + c.val by omega)))) b y x k hn)
  · rw [dif_neg hc, dif_neg hc]
    obtain ⟨k, hk, hn⟩ := hhi ⟨b.val * 1024 + y.val * 32 + x.val, by omega⟩
    obtain ⟨r, hr⟩ := hfin (ix4 b c y x)
    have hz : Ref.hi (zA m d) (ix4 b ⟨c.val - 32, by omega⟩ y x) = (r : EReal) :=
      (Ref.hi_at _ b ⟨c.val - 32, by omega⟩ y x).trans ((congrArg (fun t => zA m d (ix4 b t y x)) (Fin.ext (show 32 + (c.val - 32) = c.val by omega))).trans hr)
    rw [Ref.half_at _ _ b ⟨c.val - 32, by omega⟩ y x k r hz hk]
    exact Kern.rows_at _ _ _ _ _ k (Kern.arg_at (zA m d) (Ref.hi (zA m d)) (eB m d) Digits.rows Digits.rows_hi Digits.rows_lo 1
      (fun b c y x => (Ref.hi_at _ b c y x).trans (congrArg (fun t => zA m d (ix4 b t y x)) (Fin.ext (show 32 + c.val = 1 * 32 + c.val by omega)))) b y x k hn)

end Chain

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.Ref
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run of the program at either reading of its floats: the two programs have one text. -/
theorem frame_kernel : Cert.quiescent_Kernel := fun m ρ _ => by
  rw [Same.threads_same, Same.defs_same]
  exact (θ_run Cert.KernelIdeal.defs _ _).mono (fun _ h => h.1) (Tile.run_ends (F := Bits) m ρ)

theorem frame_ideal : Cert.quiescent_KernelIdeal := fun m ρ _ =>
  (θ_run Cert.KernelIdeal.defs _ _).mono (fun _ h => h.1) (Tile.run_ends (F := Ideal) m ρ)

theorem frame_reference : Cert.quiescent_ReferenceIdeal := fun m ρ _ =>
  (θ_run Cert.ReferenceIdeal.defs _ _).mono (fun _ h => h.1) (Ref.run_ends (F := Ideal) m ρ)

/-- Both programs run and leave equal results where the precondition holds. -/
theorem same_value : Cert.algebraic_KernelIdeal_ReferenceIdeal_pre_nearest_is_unique := fun m ρ m' ρ' hpre hargs =>
  ⟨fun c => Tile.W9 m c (Proc.devRef .tc Cert.KernelIdeal.main_v32),
    (θ_run Cert.KernelIdeal.defs _ _).mono (fun _ h c => ⟨h.2 c, h.1.1 c⟩) (Tile.run_ends (F := Ideal) m ρ),
    (θ_run Cert.ReferenceIdeal.defs _ _).mono (fun _ h c => ⟨by
      rw [h.2 c, (hargs c).1, (hargs c).2.1, (hargs c).2.2]
      exact (Value.value m c (hpre c)).symm, h.1.1 c⟩) (Ref.run_ends (F := Ideal) m' ρ')⟩

theorem claim : Cert.Claim := ⟨Cert.Kernel.Gen.facts, Cert.KernelIdeal.Gen.facts, Cert.ReferenceIdeal.Gen.facts, Unique.facts,
  frame_kernel, frame_ideal, fun m ρ _ => frame_ideal m ρ trivial, frame_reference, fun m ρ _ => frame_reference m ρ trivial, trivial, same_value⟩

end Cert.Proof

end
